-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_input [hPre_binary_input : Cert.Pre_binary_input.Facts] (m : (ℓ : Loc Cert.KernelIdeal.nD Cert.KernelIdeal.τ Cert.KernelIdeal.sig) → Buf (Elt Ideal) ℓ) : Prop :=
  ∀ c : Dev Cert.KernelIdeal.nD,
    (Cert.Pre_binary_input.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_input [hPre_binary_input : Cert.Pre_binary_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_input.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_binary_input [hKernelIdeal : Cert.KernelIdeal.Facts] [hPre_binary_input : Cert.Pre_binary_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_input m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_binary_input [hReferenceIdeal : Cert.ReferenceIdeal.Facts] [hPre_binary_input : Cert.Pre_binary_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_binary_input [hKernelIdeal : Cert.KernelIdeal.Facts] [hReferenceIdeal : Cert.ReferenceIdeal.Facts] [hPre_binary_input : Cert.Pre_binary_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_input m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_binary_input : Cert.Pre_binary_input.Facts),
    quiescent_Kernel (hKernel := hKernel)
    ∧ quiescent_KernelIdeal (hKernelIdeal := hKernelIdeal)
    ∧ quiescent_KernelIdeal_pre_binary_input (hKernelIdeal := hKernelIdeal) (hPre_binary_input := hPre_binary_input)
    ∧ quiescent_ReferenceIdeal (hReferenceIdeal := hReferenceIdeal)
    ∧ quiescent_ReferenceIdeal_pre_binary_input (hReferenceIdeal := hReferenceIdeal) (hPre_binary_input := hPre_binary_input)
    ∧ preserves_Kernel_KernelIdeal
    ∧ algebraic_KernelIdeal_ReferenceIdeal_pre_binary_input (hKernelIdeal := hKernelIdeal) (hReferenceIdeal := hReferenceIdeal) (hPre_binary_input := hPre_binary_input)
-- ==== Pre_binary_input.lean ====
abbrev S1000x1x784 : Shape := ⟨3, ![1000, 1, 784]⟩
abbrev S512x784 : Shape := ⟨2, ![512, 784]⟩
abbrev S_ : Shape := ⟨0, ![]⟩

class Facts : Prop where
  bcast_S_S1000x1x784 : S_.BroadcastsInDim S1000x1x784 (![] : Fin 0 → Fin S1000x1x784.rank)
  reducesTo_S1000x1x784_S_d0_1_2 : S1000x1x784.ReducesTo [0, 1, 2] S_
  h_S_ : 0 < S_.numel
  bcast_S_S512x784 : S_.BroadcastsInDim S512x784 (![] : Fin 0 → Fin S512x784.rank)
  reducesTo_S512x784_S_d0_1 : S512x784.ReducesTo [0, 1] S_

variable [Facts]

def fn {F : FTy → Type} [FloatOps F] (main_arg0 : FVec F S1000x1x784 .f32) (main_arg1 : FVec F S512x784 .f32) : IVec S_ 1 :=
  let main_cst : FVec F S_ .f32 := constant S_ .f32 0x00000000#32
  let main_v0 : FVec F S1000x1x784 .f32 := broadcastInDim S1000x1x784 ![] bcast_S_S1000x1x784 main_cst
  let main_v1 : IVec S1000x1x784 1 := cmpf .oeq main_arg0 main_v0
  let main_cst_0 : FVec F S_ .f32 := constant S_ .f32 0x3F800000#32
  let main_v2 : FVec F S1000x1x784 .f32 := broadcastInDim S1000x1x784 ![] bcast_S_S1000x1x784 main_cst_0
  let main_v3 : IVec S1000x1x784 1 := cmpf .oeq main_arg0 main_v2
  let main_v4 : IVec S1000x1x784 1 := ori main_v1 main_v3
  let main_c : IVec S_ 1 := constantI S_ 1 1#1
  let main_v5 : IVec S_ 1 := (fun x v => Host.reduce IntOp.andi x v reducesTo_S1000x1x784_S_d0_1_2 h_S_) main_v4 main_c
  let main_cst_1 : FVec F S_ .f32 := constant S_ .f32 0x00000000#32
  let main_v6 : FVec F S512x784 .f32 := broadcastInDim S512x784 ![] bcast_S_S512x784 main_cst_1
  let main_v7 : IVec S512x784 1 := cmpf .oge main_arg1 main_v6
  let main_cst_2 : FVec F S_ .f32 := constant S_ .f32 0x42FE0000#32
  let main_v8 : FVec F S512x784 .f32 := broadcastInDim S512x784 ![] bcast_S_S512x784 main_cst_2
  let main_v9 : IVec S512x784 1 := cmpf .ole main_arg1 main_v8
  let main_v10 : IVec S512x784 1 := andi main_v7 main_v9
  let main_c_3 : IVec S_ 1 := constantI S_ 1 1#1
  let main_v11 : IVec S_ 1 := (fun x v => Host.reduce IntOp.andi x v reducesTo_S512x784_S_d0_1 h_S_) main_v10 main_c_3
  let main_v12 : IVec S_ 1 := andi main_v5 main_v11
  main_v12
-- ==== Kernel.lean ====
abbrev S1000x1x784 : Shape := ⟨3, ![1000, 1, 784]⟩
abbrev S512x784 : Shape := ⟨2, ![512, 784]⟩
abbrev S_ : Shape := ⟨0, ![]⟩
abbrev S1x1x784 : Shape := ⟨3, ![1, 1, 784]⟩
abbrev S999x1x784 : Shape := ⟨3, ![999, 1, 784]⟩
abbrev S512x512 : Shape := ⟨2, ![512, 512]⟩
abbrev S1x512 : Shape := ⟨2, ![1, 512]⟩
abbrev S512x1 : Shape := ⟨2, ![512, 1]⟩
abbrev S1004x1x512 : Shape := ⟨3, ![1004, 1, 512]⟩
abbrev S4x1x512 : Shape := ⟨3, ![4, 1, 512]⟩
abbrev S1x784 : Shape := ⟨2, ![1, 784]⟩
abbrev S1x1x512 : Shape := ⟨3, ![1, 1, 512]⟩
abbrev S1 : Shape := ⟨1, ![1]⟩
abbrev S1x1x1 : Shape := ⟨3, ![1, 1, 1]⟩
abbrev S1000x1x512 : Shape := ⟨3, ![1000, 1, 512]⟩

abbrev nBuf : Space → Nat
  | .hbm => 27
  | .vmem => 11
  | .smem => 0
  | _ => 0

abbrev bufTy : (tb : Table) → Fin (tcTables nBuf tb) → BufTy
  | .hbm, ⟨0, _⟩ => ⟨S1000x1x784, .f32⟩
  | .hbm, ⟨1, _⟩ => ⟨S512x784, .f32⟩
  | .hbm, ⟨2, _⟩ => ⟨S_, .f32⟩
  | .hbm, ⟨3, _⟩ => ⟨S1x1x784, .f32⟩
  | .hbm, ⟨4, _⟩ => ⟨S999x1x784, .f32⟩
  | .hbm, ⟨5, _⟩ => ⟨S1000x1x784, .f32⟩
  | .hbm, ⟨6, _⟩ => ⟨S_, .f32⟩
  | .hbm, ⟨7, _⟩ => ⟨S1000x1x784, .f32⟩
  | .hbm, ⟨8, _⟩ => ⟨S1000x1x784, .f32⟩
  | .hbm, ⟨9, _⟩ => ⟨S_, .f32⟩
  | .hbm, ⟨10, _⟩ => ⟨S1000x1x784, .f32⟩
  | .hbm, ⟨11, _⟩ => ⟨S1000x1x784, .f32⟩
  | .hbm, ⟨12, _⟩ => ⟨S1000x1x784, .f32⟩
  | .hbm, ⟨13, _⟩ => ⟨S1000x1x784, .f32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x512, .f32⟩
  | .hbm, ⟨21, _⟩ => ⟨S_, .f32⟩
  | .hbm, ⟨22, _⟩ => ⟨S1x512, .f32⟩
  | .hbm, ⟨23, _⟩ => ⟨S_, .f32⟩
  | .hbm, ⟨24, _⟩ => ⟨S512x1, .f32⟩
  | .hbm, ⟨25, _⟩ => ⟨S1004x1x512, .f32⟩
  | .hbm, ⟨26, _⟩ => ⟨S1000x1x512, .f32⟩
  | .local _ .vmem, ⟨0, _⟩ => ⟨S1000x1x784, .f32⟩
  | .local _ .vmem, ⟨1, _⟩ => ⟨S1000x1x784, .f32⟩
  | .local _ .vmem, ⟨2, _⟩ => ⟨S512x512, .f32⟩
  | .local _ .vmem, ⟨3, _⟩ => ⟨S512x784, .f32⟩
  | .local _ .vmem, ⟨4, _⟩ => ⟨S1x512, .f32⟩
  | .local _ .vmem, ⟨5, _⟩ => ⟨S512x1, .f32⟩
  | .local _ .vmem, ⟨6, _⟩ => ⟨S4x1x512, .f32⟩
  | .local _ .vmem, ⟨7, _⟩ => ⟨S4x1x512, .f32⟩
  | .local _ .vmem, ⟨8, _⟩ => ⟨S512x784, .f32⟩
  | .local _ .vmem, ⟨9, _⟩ => ⟨S1x512, .f32⟩
  | .local _ .vmem, ⟨10, _⟩ => ⟨S512x1, .f32⟩
  | _, _ => ⟨S1000x1x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7

abbrev nD : Nat := 1
abbrev τ : Topo := Topo.v7x

variable {F : FTy → Type} [FloatOps F]

abbrev grid0 : Pipeline.Grid := ⟨1, ![251], ![false]⟩

def k0_off1 (i : grid0.Coords) (c0_i32_1 : BitVec 32) : Fin 3 → Nat :=
  let c999_i32 : BitVec 32 := 999#32
  let c0_i32_2 : BitVec 32 := 0#32
  let c4_i32 : BitVec 32 := 4#32
  let arg0 : BitVec 32 := BitVec.ofNat 32 (i 0).val
  let v3 : BitVec 32 := Scalar.muli c4_i32 arg0
  let v4 : BitVec 32 := Scalar.addi v3 c0_i32_1
  let c1_i32 : BitVec 32 := 1#32
  let v5 : BitVec 32 := Scalar.subi v4 c1_i32
  let v6 : BitVec 32 := Scalar.maxsi c0_i32_2 v5
  let v7 : BitVec 32 := Scalar.minsi c999_i32 v6
  let v8 : Index := Scalar.indexCast v7
  let c0 : Index := 0#32
  let c0_3 : Index := 0#32
  ![v8.toNat, 0, 0]
def k0_off2 (i : grid0.Coords) (c0_i32_1 : BitVec 32) : Fin 3 → Nat :=
  let c4_i32 : BitVec 32 := 4#32
  let arg0 : BitVec 32 := BitVec.ofNat 32 (i 0).val
  let v3 : BitVec 32 := Scalar.muli c4_i32 arg0
  let v4 : BitVec 32 := Scalar.addi v3 c0_i32_1
  let c999_i32_6 : BitVec 32 := 999#32
  let v14 : BitVec 32 := Scalar.minsi v4 c999_i32_6
  let v15 : Index := Scalar.indexCast v14
  let c0_7 : Index := 0#32
  let c0_8 : Index := 0#32
  ![v15.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1000x1x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000x1x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x784 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1000x1x784 : Shape := ⟨3, ![1000, 1, 784]⟩
abbrev S512x784 : Shape := ⟨2, ![512, 784]⟩
abbrev S60 : Shape := ⟨1, ![60]⟩
abbrev S_ : Shape := ⟨0, ![]⟩
abbrev S1x512 : Shape := ⟨2, ![1, 512]⟩
abbrev S1x784 : Shape := ⟨2, ![1, 784]⟩
abbrev S1000x1x512 : Shape := ⟨3, ![1000, 1, 512]⟩
abbrev S1x1x784 : Shape := ⟨3, ![1, 1, 784]⟩
abbrev S784x512 : Shape := ⟨2, ![784, 512]⟩
abbrev S784 : Shape := ⟨1, ![784]⟩
abbrev S512 : Shape := ⟨1, ![512]⟩
abbrev S512x1 : Shape := ⟨2, ![512, 1]⟩
abbrev S784x1 : Shape := ⟨2, ![784, 1]⟩
abbrev S1x1x512 : Shape := ⟨3, ![1, 1, 512]⟩

abbrev nBuf : Space → Nat
  | .hbm => 210
  | .vmem => 0
  | .smem => 0
  | _ => 0

abbrev hbmTy0_0 (i : Nat) : BufTy := match i % 128 with
  | 0 => ⟨S1000x1x784, .f32⟩
  | 1 => ⟨S512x784, .f32⟩
  | 2 => ⟨S60, .f32⟩
  | 3 => ⟨S_, .f32⟩
  | 4 => ⟨S1x512, .f32⟩
  | 5 => ⟨S_, .i32⟩
  | 6 => ⟨S1x784, .i32⟩
  | 7 => ⟨S_, .i32⟩
  | 8 => ⟨S1x784, .i32⟩
  | 9 => ⟨S_, .i32⟩
  | 10 => ⟨S1x512, .i32⟩
  | 11 => ⟨S_, .i32⟩
  | 12 => ⟨S1x512, .i32⟩
  | 13 => ⟨S_, .f32⟩
  | 14 => ⟨S1x512, .f32⟩
  | 15 => ⟨S_, .f32⟩
  | 16 => ⟨S1000x1x512, .f32⟩
  | 17 => ⟨S_, .i32⟩
  | 18 => ⟨S1000x1x784, .f32⟩
  | 19 => ⟨S60, .f32⟩
  | 20 => ⟨S_, .i32⟩
  | 21 => ⟨S1x512, .f32⟩
  | 22 => ⟨S512x784, .f32⟩
  | 23 => ⟨S1x784, .i32⟩
  | 24 => ⟨S1x784, .i32⟩
  | 25 => ⟨S1x512, .i32⟩
  | 26 => ⟨S1x512, .i32⟩
  | 27 => ⟨S1x512, .f32⟩
  | 28 => ⟨S1000x1x512, .f32⟩
  | 29 => ⟨S_, .i32⟩
  | 30 => ⟨S_, .i1⟩
  | 31 => ⟨S_, .i32⟩
  | 32 => ⟨S_, .i32⟩
  | 33 => ⟨S1x1x784, .f32⟩
  | 34 => ⟨S1x784, .f32⟩
  | 35 => ⟨S_, .f32⟩
  | 36 => ⟨S_, .f32⟩
  | 37 => ⟨S_, .f32⟩
  | 38 => ⟨S_, .i1⟩
  | 39 => ⟨S_, .f32⟩
  | 40 => ⟨S_, .f32⟩
  | 41 => ⟨S_, .f32⟩
  | 42 => ⟨S784x512, .f32⟩
  | 43 => ⟨S1x512, .f32⟩
  | 44 => ⟨S1x512, .f32⟩
  | 45 => ⟨S_, .f32⟩
  | 46 => ⟨S1x512, .f32⟩
  | 47 => ⟨S1x512, .f32⟩
  | 48 => ⟨S_, .f32⟩
  | 49 => ⟨S1x512, .f32⟩
  | 50 => ⟨S1x512, .f32⟩
  | 51 => ⟨S_, .f32⟩
  | 52 => ⟨S1x512, .f32⟩
  | 53 => ⟨S1x512, .i1⟩
  | 54 => ⟨S_, .f32⟩
  | 55 => ⟨S_, .f32⟩
  | 56 => ⟨S1x512, .f32⟩
  | 57 => ⟨S1x512, .f32⟩
  | 58 => ⟨S1x512, .f32⟩
  | 59 => ⟨S_, .f32⟩
  | 60 => ⟨S1x784, .f32⟩
  | 61 => ⟨S1x784, .i1⟩
  | 62 => ⟨S_, .i32⟩
  | 63 => ⟨S_, .i32⟩
  | 64 => ⟨S1x784, .i32⟩
  | 65 => ⟨S1x784, .i32⟩
  | 66 => ⟨S_, .f32⟩
  | 67 => ⟨S1x784, .f32⟩
  | 68 => ⟨S1x784, .i1⟩
  | 69 => ⟨S_, .i32⟩
  | 70 => ⟨S_, .i32⟩
  | 71 => ⟨S1x784, .i32⟩
  | 72 => ⟨S1x784, .i32⟩
  | 73 => ⟨S_, .f32⟩
  | 74 => ⟨S1x784, .f32⟩
  | 75 => ⟨S1x784, .i1⟩
  | 76 => ⟨S_, .i32⟩
  | 77 => ⟨S1x784, .i32⟩
  | 78 => ⟨S1x784, .i32⟩
  | 79 => ⟨S1x784, .i32⟩
  | 80 => ⟨S_, .i32⟩
  | 81 => ⟨S1x784, .i32⟩
  | 82 => ⟨S1x784, .i32⟩
  | 83 => ⟨S_, .i32⟩
  | 84 => ⟨S_, .i32⟩
  | 85 => ⟨S1x512, .i32⟩
  | 86 => ⟨S1x512, .i32⟩
  | 87 => ⟨S_, .i32⟩
  | 88 => ⟨S_, .i32⟩
  | 89 => ⟨S1x512, .i32⟩
  | 90 => ⟨S1x512, .i32⟩
  | 91 => ⟨S1x512, .i1⟩
  | 92 => ⟨S_, .i32⟩
  | 93 => ⟨S1x512, .i32⟩
  | 94 => ⟨S1x512, .i32⟩
  | 95 => ⟨S1x512, .i32⟩
  | 96 => ⟨S_, .i32⟩
  | 97 => ⟨S1x512, .i32⟩
  | 98 => ⟨S1x512, .i32⟩
  | 99 => ⟨S784, .i32⟩
  | 100 => ⟨S512, .i32⟩
  | 101 => ⟨S784, .f32⟩
  | 102 => ⟨S512x1, .f32⟩
  | 103 => ⟨S_, .i32⟩
  | 104 => ⟨S784, .i32⟩
  | 105 => ⟨S784, .i1⟩
  | 106 => ⟨S784, .f32⟩
  | 107 => ⟨S1x784, .f32⟩
  | 108 => ⟨S512x784, .f32⟩
  | 109 => ⟨S512x784, .f32⟩
  | 110 => ⟨S512x784, .f32⟩
  | 111 => ⟨S_, .i32⟩
  | 112 => ⟨S784, .i32⟩
  | 113 => ⟨S784, .i32⟩
  | 114 => ⟨S_, .i32⟩
  | 115 => ⟨S_, .i32⟩
  | 116 => ⟨S_, .i32⟩
  | 117 => ⟨S784, .i32⟩
  | 118 => ⟨S784, .i32⟩
  | 119 => ⟨S_, .i32⟩
  | 120 => ⟨S784, .i32⟩
  | 121 => ⟨S784, .i32⟩
  | 122 => ⟨S_, .i32⟩
  | 123 => ⟨S784, .i32⟩
  | 124 => ⟨S784, .i1⟩
  | 125 => ⟨S_, .i32⟩
  | 126 => ⟨S784, .i32⟩
  | 127 => ⟨S784, .i32⟩
  | _ => ⟨S1000x1x784, .f32⟩

abbrev hbmTy0_1 (i : Nat) : BufTy := match i % 128 with
  | 0 => ⟨S784, .i32⟩
  | 1 => ⟨S784x1, .i32⟩
  | 2 => ⟨S784, .f32⟩
  | 3 => ⟨S1x784, .f32⟩
  | 4 => ⟨S512x784, .f32⟩
  | 5 => ⟨S512x784, .f32⟩
  | 6 => ⟨S512x784, .f32⟩
  | 7 => ⟨S_, .f32⟩
  | 8 => ⟨S512x784, .f32⟩
  | 9 => ⟨S512x784, .f32⟩
  | 10 => ⟨S_, .f32⟩
  | 11 => ⟨S1x512, .f32⟩
  | 12 => ⟨S1x512, .f32⟩
  | 13 => ⟨S512x1, .f32⟩
  | 14 => ⟨S_, .i32⟩
  | 15 => ⟨S512, .i32⟩
  | 16 => ⟨S512, .i1⟩
  | 17 => ⟨S512, .f32⟩
  | 18 => ⟨S512x1, .f32⟩
  | 19 => ⟨S512x1, .f32⟩
  | 20 => ⟨S_, .f32⟩
  | 21 => ⟨S784, .f32⟩
  | 22 => ⟨S784, .i1⟩
  | 23 => ⟨S784, .f32⟩
  | 24 => ⟨S1x784, .f32⟩
  | 25 => ⟨S512x784, .f32⟩
  | 26 => ⟨S512x784, .f32⟩
  | 27 => ⟨S512x784, .f32⟩
  | 28 => ⟨S512, .i32⟩
  | 29 => ⟨S_, .i32⟩
  | 30 => ⟨S512, .i32⟩
  | 31 => ⟨S512, .i32⟩
  | 32 => ⟨S_, .i32⟩
  | 33 => ⟨S_, .i32⟩
  | 34 => ⟨S_, .i32⟩
  | 35 => ⟨S512, .i32⟩
  | 36 => ⟨S512, .i32⟩
  | 37 => ⟨S_, .i32⟩
  | 38 => ⟨S512, .i32⟩
  | 39 => ⟨S512, .i32⟩
  | 40 => ⟨S_, .i32⟩
  | 41 => ⟨S512, .i32⟩
  | 42 => ⟨S512, .i1⟩
  | 43 => ⟨S_, .i32⟩
  | 44 => ⟨S512, .i32⟩
  | 45 => ⟨S512, .i32⟩
  | 46 => ⟨S512, .i32⟩
  | 47 => ⟨S512x1, .i32⟩
  | 48 => ⟨S512, .f32⟩
  | 49 => ⟨S512x1, .f32⟩
  | 50 => ⟨S512x784, .f32⟩
  | 51 => ⟨S512x784, .f32⟩
  | 52 => ⟨S512x784, .f32⟩
  | 53 => ⟨S_, .f32⟩
  | 54 => ⟨S512x784, .f32⟩
  | 55 => ⟨S512x784, .f32⟩
  | 56 => ⟨S1x1x512, .f32⟩
  | 57 => ⟨S_, .i32⟩
  | 58 => ⟨S_, .i32⟩
  | 59 => ⟨S1000x1x512, .f32⟩
  | 60 => ⟨S_, .i32⟩
  | 61 => ⟨S_, .i32⟩
  | 62 => ⟨S512, .i32⟩
  | 63 => ⟨S_, .i32⟩
  | 64 => ⟨S512, .i32⟩
  | 65 => ⟨S512, .i1⟩
  | 66 => ⟨S512x1, .i1⟩
  | 67 => ⟨S784, .i32⟩
  | 68 => ⟨S_, .i32⟩
  | 69 => ⟨S784, .i32⟩
  | 70 => ⟨S784, .i1⟩
  | 71 => ⟨S1x784, .i1⟩
  | 72 => ⟨S512x784, .i1⟩
  | 73 => ⟨S512x784, .i1⟩
  | 74 => ⟨S512x784, .i1⟩
  | 75 => ⟨S_, .f32⟩
  | 76 => ⟨S512x784, .f32⟩
  | 77 => ⟨S512x784, .f32⟩
  | 78 => ⟨S512x784, .f32⟩
  | 79 => ⟨S_, .f32⟩
  | 80 => ⟨S512x784, .f32⟩
  | 81 => ⟨S512x784, .f32⟩
  | _ => ⟨S1000x1x784, .f32⟩

abbrev hbmTy (i : Nat) : BufTy := match i / 128 with
  | 0 => hbmTy0_0 i
  | 1 => hbmTy0_1 i
  | _ => ⟨S1000x1x784, .f32⟩

abbrev bufTy : (tb : Table) → Fin (tcTables nBuf tb) → BufTy
  | .hbm, ⟨i, _⟩ => hbmTy i
  | _, _ => ⟨S1000x1x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_c_3 : Ref sig .tc := ⟨.hbm, 11, rfl⟩
abbrev main_v4 : Ref sig .tc := ⟨.hbm, 12, rfl⟩
abbrev main_cst_4 : Ref sig .tc := ⟨.hbm, 13, rfl⟩
abbrev main_v5 : Ref sig .tc := ⟨.hbm, 14, rfl⟩
abbrev main_cst_5 : Ref sig .tc := ⟨.hbm, 15, rfl⟩
abbrev main_v6 : Ref sig .tc := ⟨.hbm, 16, rfl⟩
abbrev main_c_6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev main_v7_6 : Ref sig .tc := ⟨.hbm, 24, rfl⟩
abbrev main_v7_7 : Ref sig .tc := ⟨.hbm, 25, rfl⟩
abbrev main_v7_8 : Ref sig .tc := ⟨.hbm, 26, rfl⟩
abbrev main_v7_9 : Ref sig .tc := ⟨.hbm, 27, rfl⟩
abbrev main_v7_10 : Ref sig .tc := ⟨.hbm, 28, rfl⟩
abbrev main_while0c_c_21 : Ref sig .tc := ⟨.hbm, 29, rfl⟩
abbrev main_while0c_v24 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_v0 : Ref sig .tc := ⟨.hbm, 33, rfl⟩
abbrev main_while0b_v24 : Ref sig .tc := ⟨.hbm, 34, rfl⟩
abbrev main_while0b_cst_21 : Ref sig .tc := ⟨.hbm, 35, rfl⟩
abbrev main_while0b_v25 : Ref sig .tc := ⟨.hbm, 36, rfl⟩
abbrev main_while0b_cst_22 : Ref sig .tc := ⟨.hbm, 37, rfl⟩
abbrev main_while0b_v26 : Ref sig .tc := ⟨.hbm, 38, rfl⟩
abbrev main_while0b_cst_23 : Ref sig .tc := ⟨.hbm, 39, rfl⟩
abbrev main_while0b_cst_24 : Ref sig .tc := ⟨.hbm, 40, rfl⟩
abbrev main_while0b_v27 : Ref sig .tc := ⟨.hbm, 41, rfl⟩
abbrev main_while0b_v28 : Ref sig .tc := ⟨.hbm, 42, rfl⟩
abbrev main_while0b_v29 : Ref sig .tc := ⟨.hbm, 43, rfl⟩
abbrev main_while0b_v30 : Ref sig .tc := ⟨.hbm, 44, rfl⟩
abbrev main_while0b_v31 : Ref sig .tc := ⟨.hbm, 45, rfl⟩
abbrev main_while0b_v32 : Ref sig .tc := ⟨.hbm, 46, rfl⟩
abbrev main_while0b_v33 : Ref sig .tc := ⟨.hbm, 47, rfl⟩
abbrev main_while0b_cst_25 : Ref sig .tc := ⟨.hbm, 48, rfl⟩
abbrev main_while0b_v34 : Ref sig .tc := ⟨.hbm, 49, rfl⟩
abbrev main_while0b_v35 : Ref sig .tc := ⟨.hbm, 50, rfl⟩
abbrev main_while0b_cst_26 : Ref sig .tc := ⟨.hbm, 51, rfl⟩
abbrev main_while0b_v36 : Ref sig .tc := ⟨.hbm, 52, rfl⟩
abbrev main_while0b_v37 : Ref sig .tc := ⟨.hbm, 53, rfl⟩
abbrev main_while0b_cst_27 : Ref sig .tc := ⟨.hbm, 54, rfl⟩
abbrev main_while0b_call2_v0 : Ref sig .tc := ⟨.hbm, 55, rfl⟩
abbrev main_while0b_call2_v1 : Ref sig .tc := ⟨.hbm, 56, rfl⟩
abbrev main_while0b_v38 : Ref sig .tc := ⟨.hbm, 57, rfl⟩
abbrev main_while0b_v39 : Ref sig .tc := ⟨.hbm, 58, rfl⟩
abbrev main_while0b_cst_28 : Ref sig .tc := ⟨.hbm, 59, rfl⟩
abbrev main_while0b_v40 : Ref sig .tc := ⟨.hbm, 60, rfl⟩
abbrev main_while0b_v41 : Ref sig .tc := ⟨.hbm, 61, rfl⟩
abbrev main_while0b_c_29 : Ref sig .tc := ⟨.hbm, 62, rfl⟩
abbrev main_while0b_call3_v0 : Ref sig .tc := ⟨.hbm, 63, rfl⟩
abbrev main_while0b_call3_v1 : Ref sig .tc := ⟨.hbm, 64, rfl⟩
abbrev main_while0b_v42 : Ref sig .tc := ⟨.hbm, 65, rfl⟩
abbrev main_while0b_cst_30 : Ref sig .tc := ⟨.hbm, 66, rfl⟩
abbrev main_while0b_v43 : Ref sig .tc := ⟨.hbm, 67, rfl⟩
abbrev main_while0b_v44 : Ref sig .tc := ⟨.hbm, 68, rfl⟩
abbrev main_while0b_c_31 : Ref sig .tc := ⟨.hbm, 69, rfl⟩
abbrev main_while0b_call4_v0 : Ref sig .tc := ⟨.hbm, 70, rfl⟩
abbrev main_while0b_call4_v1 : Ref sig .tc := ⟨.hbm, 71, rfl⟩
abbrev main_while0b_v45 : Ref sig .tc := ⟨.hbm, 72, rfl⟩
abbrev main_while0b_cst_32 : Ref sig .tc := ⟨.hbm, 73, rfl⟩
abbrev main_while0b_v46 : Ref sig .tc := ⟨.hbm, 74, rfl⟩
abbrev main_while0b_v47 : Ref sig .tc := ⟨.hbm, 75, rfl⟩
abbrev main_while0b_c_33 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_c_34 : Ref sig .tc := ⟨.hbm, 80, rfl⟩
abbrev main_while0b_v51 : Ref sig .tc := ⟨.hbm, 81, rfl⟩
abbrev main_while0b_v52 : Ref sig .tc := ⟨.hbm, 82, rfl⟩
abbrev main_while0b_c_35 : Ref sig .tc := ⟨.hbm, 83, rfl⟩
abbrev main_while0b_call6_v0 : Ref sig .tc := ⟨.hbm, 84, rfl⟩
abbrev main_while0b_call6_v1 : Ref sig .tc := ⟨.hbm, 85, rfl⟩
abbrev main_while0b_v53 : Ref sig .tc := ⟨.hbm, 86, rfl⟩
abbrev main_while0b_c_36 : Ref sig .tc := ⟨.hbm, 87, rfl⟩
abbrev main_while0b_call7_v0 : Ref sig .tc := ⟨.hbm, 88, rfl⟩
abbrev main_while0b_call7_v1 : Ref sig .tc := ⟨.hbm, 89, rfl⟩
abbrev main_while0b_v54 : Ref sig .tc := ⟨.hbm, 90, rfl⟩
abbrev main_while0b_v55 : Ref sig .tc := ⟨.hbm, 91, rfl⟩
abbrev main_while0b_c_37 : Ref sig .tc := ⟨.hbm, 92, rfl⟩
abbrev main_while0b_v56 : Ref sig .tc := ⟨.hbm, 93, rfl⟩
abbrev main_while0b_v57 : Ref sig .tc := ⟨.hbm, 94, rfl⟩
abbrev main_while0b_v58 : Ref sig .tc := ⟨.hbm, 95, rfl⟩
abbrev main_while0b_c_38 : Ref sig .tc := ⟨.hbm, 96, rfl⟩
abbrev main_while0b_v59 : Ref sig .tc := ⟨.hbm, 97, rfl⟩
abbrev main_while0b_v60 : Ref sig .tc := ⟨.hbm, 98, rfl⟩
abbrev main_while0b_v61 : Ref sig .tc := ⟨.hbm, 99, rfl⟩
abbrev main_while0b_v62 : Ref sig .tc := ⟨.hbm, 100, rfl⟩
abbrev main_while0b_v63 : Ref sig .tc := ⟨.hbm, 101, rfl⟩
abbrev main_while0b_v64 : Ref sig .tc := ⟨.hbm, 102, rfl⟩
abbrev main_while0b_c_39 : Ref sig .tc := ⟨.hbm, 103, rfl⟩
abbrev main_while0b_v65 : Ref sig .tc := ⟨.hbm, 104, rfl⟩
abbrev main_while0b_v66 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_c_40 : Ref sig .tc := ⟨.hbm, 111, rfl⟩
abbrev main_while0b_v72 : Ref sig .tc := ⟨.hbm, 112, rfl⟩
abbrev main_while0b_v73 : Ref sig .tc := ⟨.hbm, 113, rfl⟩
abbrev main_while0b_c_41 : Ref sig .tc := ⟨.hbm, 114, rfl⟩
abbrev main_while0b_c_42 : Ref sig .tc := ⟨.hbm, 115, rfl⟩
abbrev main_while0b_call9_v0 : Ref sig .tc := ⟨.hbm, 116, rfl⟩
abbrev main_while0b_call9_v1 : Ref sig .tc := ⟨.hbm, 117, rfl⟩
abbrev main_while0b_call9_v2 : Ref sig .tc := ⟨.hbm, 118, rfl⟩
abbrev main_while0b_call9_v3 : Ref sig .tc := ⟨.hbm, 119, rfl⟩
abbrev main_while0b_call9_v4 : Ref sig .tc := ⟨.hbm, 120, rfl⟩
abbrev main_while0b_v74 : Ref sig .tc := ⟨.hbm, 121, rfl⟩
abbrev main_while0b_c_43 : Ref sig .tc := ⟨.hbm, 122, rfl⟩
abbrev main_while0b_v75 : Ref sig .tc := ⟨.hbm, 123, rfl⟩
abbrev main_while0b_v76 : Ref sig .tc := ⟨.hbm, 124, rfl⟩
abbrev main_while0b_c_44 : Ref sig .tc := ⟨.hbm, 125, rfl⟩
abbrev main_while0b_v77 : Ref sig .tc := ⟨.hbm, 126, rfl⟩
abbrev main_while0b_v78 : Ref sig .tc := ⟨.hbm, 127, rfl⟩
abbrev main_while0b_v79 : Ref sig .tc := ⟨.hbm, 128, rfl⟩
abbrev main_while0b_v80 : Ref sig .tc := ⟨.hbm, 129, rfl⟩
abbrev main_while0b_v81 : Ref sig .tc := ⟨.hbm, 130, rfl⟩
abbrev main_while0b_v82 : Ref sig .tc := ⟨.hbm, 131, rfl⟩
abbrev main_while0b_v83 : Ref sig .tc := ⟨.hbm, 132, rfl⟩
abbrev main_while0b_v84 : Ref sig .tc := ⟨.hbm, 133, rfl⟩
abbrev main_while0b_v85 : Ref sig .tc := ⟨.hbm, 134, rfl⟩
abbrev main_while0b_cst_45 : Ref sig .tc := ⟨.hbm, 135, rfl⟩
abbrev main_while0b_v86 : Ref sig .tc := ⟨.hbm, 136, rfl⟩
abbrev main_while0b_v87 : Ref sig .tc := ⟨.hbm, 137, rfl⟩
abbrev main_while0b_cst_46 : Ref sig .tc := ⟨.hbm, 138, rfl⟩
abbrev main_while0b_v88 : Ref sig .tc := ⟨.hbm, 139, rfl⟩
abbrev main_while0b_v89 : Ref sig .tc := ⟨.hbm, 140, rfl⟩
abbrev main_while0b_v90 : Ref sig .tc := ⟨.hbm, 141, rfl⟩
abbrev main_while0b_c_47 : Ref sig .tc := ⟨.hbm, 142, rfl⟩
abbrev main_while0b_v91 : Ref sig .tc := ⟨.hbm, 143, rfl⟩
abbrev main_while0b_v92 : Ref sig .tc := ⟨.hbm, 144, rfl⟩
abbrev main_while0b_v93 : Ref sig .tc := ⟨.hbm, 145, rfl⟩
abbrev main_while0b_v94 : Ref sig .tc := ⟨.hbm, 146, rfl⟩
abbrev main_while0b_v95 : Ref sig .tc := ⟨.hbm, 147, rfl⟩
abbrev main_while0b_cst_48 : Ref sig .tc := ⟨.hbm, 148, rfl⟩
abbrev main_while0b_v96 : Ref sig .tc := ⟨.hbm, 149, rfl⟩
abbrev main_while0b_v97 : Ref sig .tc := ⟨.hbm, 150, rfl⟩
abbrev main_while0b_v98 : Ref sig .tc := ⟨.hbm, 151, rfl⟩
abbrev main_while0b_v99 : Ref sig .tc := ⟨.hbm, 152, rfl⟩
abbrev main_while0b_v100 : Ref sig .tc := ⟨.hbm, 153, rfl⟩
abbrev main_while0b_v101 : Ref sig .tc := ⟨.hbm, 154, rfl⟩
abbrev main_while0b_v102 : Ref sig .tc := ⟨.hbm, 155, rfl⟩
abbrev main_while0b_v103 : Ref sig .tc := ⟨.hbm, 156, rfl⟩
abbrev main_while0b_c_49 : Ref sig .tc := ⟨.hbm, 157, rfl⟩
abbrev main_while0b_v104 : Ref sig .tc := ⟨.hbm, 158, rfl⟩
abbrev main_while0b_v105 : Ref sig .tc := ⟨.hbm, 159, rfl⟩
abbrev main_while0b_c_50 : Ref sig .tc := ⟨.hbm, 160, rfl⟩
abbrev main_while0b_c_51 : Ref sig .tc := ⟨.hbm, 161, rfl⟩
abbrev main_while0b_call10_v0 : Ref sig .tc := ⟨.hbm, 162, rfl⟩
abbrev main_while0b_call10_v1 : Ref sig .tc := ⟨.hbm, 163, rfl⟩
abbrev main_while0b_call10_v2 : Ref sig .tc := ⟨.hbm, 164, rfl⟩
abbrev main_while0b_call10_v3 : Ref sig .tc := ⟨.hbm, 165, rfl⟩
abbrev main_while0b_call10_v4 : Ref sig .tc := ⟨.hbm, 166, rfl⟩
abbrev main_while0b_v106 : Ref sig .tc := ⟨.hbm, 167, rfl⟩
abbrev main_while0b_c_52 : Ref sig .tc := ⟨.hbm, 168, rfl⟩
abbrev main_while0b_v107 : Ref sig .tc := ⟨.hbm, 169, rfl⟩
abbrev main_while0b_v108 : Ref sig .tc := ⟨.hbm, 170, rfl⟩
abbrev main_while0b_c_53 : Ref sig .tc := ⟨.hbm, 171, rfl⟩
abbrev main_while0b_v109 : Ref sig .tc := ⟨.hbm, 172, rfl⟩
abbrev main_while0b_v110 : Ref sig .tc := ⟨.hbm, 173, rfl⟩
abbrev main_while0b_v111 : Ref sig .tc := ⟨.hbm, 174, rfl⟩
abbrev main_while0b_v112 : Ref sig .tc := ⟨.hbm, 175, rfl⟩
abbrev main_while0b_v113 : Ref sig .tc := ⟨.hbm, 176, rfl⟩
abbrev main_while0b_v114 : Ref sig .tc := ⟨.hbm, 177, rfl⟩
abbrev main_while0b_v115 : Ref sig .tc := ⟨.hbm, 178, rfl⟩
abbrev main_while0b_v116 : Ref sig .tc := ⟨.hbm, 179, rfl⟩
abbrev main_while0b_v117 : Ref sig .tc := ⟨.hbm, 180, rfl⟩
abbrev main_while0b_cst_54 : Ref sig .tc := ⟨.hbm, 181, rfl⟩
abbrev main_while0b_v118 : Ref sig .tc := ⟨.hbm, 182, rfl⟩
abbrev main_while0b_v119 : Ref sig .tc := ⟨.hbm, 183, rfl⟩
abbrev main_while0b_call11_v0 : Ref sig .tc := ⟨.hbm, 184, rfl⟩
abbrev main_while0b_call11_c : Ref sig .tc := ⟨.hbm, 185, rfl⟩
abbrev main_while0b_call11_c_0 : Ref sig .tc := ⟨.hbm, 186, rfl⟩
abbrev main_while0b_v120 : Ref sig .tc := ⟨.hbm, 187, rfl⟩
abbrev main_while0b_c_55 : Ref sig .tc := ⟨.hbm, 188, rfl⟩
abbrev main_while0b_v121 : Ref sig .tc := ⟨.hbm, 189, rfl⟩
abbrev main_v8 : Ref sig .tc := ⟨.hbm, 190, rfl⟩
abbrev main_c_7 : Ref sig .tc := ⟨.hbm, 191, rfl⟩
abbrev main_v9 : Ref sig .tc := ⟨.hbm, 192, rfl⟩
abbrev main_v10 : Ref sig .tc := ⟨.hbm, 193, rfl⟩
abbrev main_v11 : Ref sig .tc := ⟨.hbm, 194, rfl⟩
abbrev main_v12 : Ref sig .tc := ⟨.hbm, 195, rfl⟩
abbrev main_c_8 : Ref sig .tc := ⟨.hbm, 196, rfl⟩
abbrev main_v13 : Ref sig .tc := ⟨.hbm, 197, rfl⟩
abbrev main_v14 : Ref sig .tc := ⟨.hbm, 198, rfl⟩
abbrev main_v15 : Ref sig .tc := ⟨.hbm, 199, rfl⟩
abbrev main_v16 : Ref sig .tc := ⟨.hbm, 200, rfl⟩
abbrev main_v17 : Ref sig .tc := ⟨.hbm, 201, rfl⟩
abbrev main_v18 : Ref sig .tc := ⟨.hbm, 202, rfl⟩
abbrev main_cst_9 : Ref sig .tc := ⟨.hbm, 203, rfl⟩
abbrev main_v19 : Ref sig .tc := ⟨.hbm, 204, rfl⟩
abbrev main_v20 : Ref sig .tc := ⟨.hbm, 205, rfl⟩
abbrev main_v21 : Ref sig .tc := ⟨.hbm, 206, rfl⟩
abbrev main_cst_10 : Ref sig .tc := ⟨.hbm, 207, rfl⟩
abbrev main_v22 : Ref sig .tc := ⟨.hbm, 208, rfl⟩
abbrev main_v23 : Ref sig .tc := ⟨.hbm, 209, rfl⟩

abbrev nD : Nat := 1
abbrev τ : Topo := Topo.v7x

variable {F : FTy → Type} [FloatOps F]

abbrev main_while0_count : Scf.Loop 32 := ⟨0#32, 1000#32, 1#32⟩
-- ==== Proof.RefFrame.lean ====
/-
  The reference program's frame: it runs, leaves its arguments as they were, and every semaphore counter ends at zero
  (its signature holds no semaphore).
-/
module

public import proofs.«01_k».proof.Proof.Gen.ReferenceIdeal.Run
public import Idealize.ShloMosaic.Lib.Quiescent

@[expose] public section

noncomputable section

namespace Cert.Proof.RefFrame

open Idealize.ShloMosaic Idealize.ShloMosaic.TcCoe Idealize.SL.Sem
open Cert.ReferenceIdeal Cert.ReferenceIdeal.Gen

variable {F : FTy → Type} [FloatOps F]

/-- The reference terminates with its two arguments unchanged and the counters at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.ReferenceIdeal.Value.run m ρ)

end Cert.Proof.RefFrame

end
-- ==== Proof.KStep.lean ====
/- One step of the kernel, and the kernel's carried buffers step by step. -/
module
public import proofs.«01_k».proof.Proof.Gen.KernelIdeal.Skeleton
public import Idealize.ShloMosaic.Lib.Pointwise
@[expose] public section
set_option maxRecDepth 16384
noncomputable section
namespace Cert.Proof.KStep
open Idealize.ShloMosaic Cert.KernelIdeal Cert.KernelIdeal.Gen

/-- The spike row of a drive row. -/
def spk (d : Vec Ideal S1x512 .f32) : Vec Ideal S1x512 .f32 := k0_pay28 (F := Ideal) d
/-- The spikes turned into a column. -/
def fcol (e : Vec Ideal S512x512 .f32) (d : Vec Ideal S1x512 .f32) : Vec Ideal S512x1 .f32 := k0_pay32 (F := Ideal) (spk d) (k0_pay31 e)
/-- The weights after a step. -/
def nW (xi xa : Vec Ideal S1x1x784 .f32) (e : Vec Ideal S512x512 .f32) (W : Vec Ideal S512x784 .f32) (d : Vec Ideal S1x512 .f32) (p : Vec Ideal S512x1 .f32) :
    Vec Ideal S512x784 .f32 := k0_pay34 (F := Ideal) (k0_pay23 xi) (k0_pay24 xa) (spk d) (k0_pay31 e) p W
/-- The drive after a step. -/
def nD (xi xa xn : Vec Ideal S1x1x784 .f32) (e : Vec Ideal S512x512 .f32) (W : Vec Ideal S512x784 .f32) (d : Vec Ideal S1x512 .f32) (p : Vec Ideal S512x1 .f32) :
    Vec Ideal S1x512 .f32 := k0_pay35 (F := Ideal) (k0_pay23 xi) (k0_pay24 xa) (k0_pay25 xn) (spk d) (k0_pay30 d) (k0_pay31 e) p W
/-- The negated spike column after a step. -/
def nP (e : Vec Ideal S512x512 .f32) (d : Vec Ideal S1x512 .f32) : Vec Ideal S512x1 .f32 := k0_pay37 (F := Ideal) (k0_pay36 (spk d) (k0_pay31 e))
/-- The negated spike column after the first slot of a grid point, which also covers step zero. -/
def nP0 (u : BitVec 32) (e : Vec Ideal S512x512 .f32) (d : Vec Ideal S1x512 .f32) : Vec Ideal S512x1 .f32 :=
  k0_pay22 (F := Ideal) (k0_pay21 u (spk d) (k0_pay31 e) (constant S512x1 FTy.f32 0#32)) (FloatOps.ofBits FTy.f32 0#32)

/-- Row `r` of a stack of rows, the last row when `r` runs past the end. -/
def row (X : Vec Ideal S1000x1x784 .f32) (r : ℕ) : Vec Ideal S1x1x784 .f32 := fun j => X (ix3 ⟨min r 999, by omega⟩ 0 (j 2))

/-- The three carried buffers: the weights, the drive row, the negated spike column of the step before. -/
abbrev KS := Vec Ideal S512x784 .f32 × Vec Ideal S1x512 .f32 × Vec Ideal S512x1 .f32

/-- The first of a grid point's four steps, at point `n`. -/
def stepFirst (X A : Vec Ideal S1000x1x784 .f32) (e : Vec Ideal S512x512 .f32) (n : ℕ) (s : KS) : KS :=
  (nW (row X (4 * n + 0 - 1)) (row A (4 * n + 0 - 1)) e s.1 s.2.1 s.2.2,
    nD (row X (4 * n + 0 - 1)) (row A (4 * n + 0 - 1)) (row X (4 * n + 0)) e s.1 s.2.1 s.2.2,
    nP0 (Scalar.addi (Scalar.muli (4#32) (BitVec.ofNat 32 n)) 0#32) e s.2.1)

/-- Each of the other three, step `k` of point `n`. -/
def stepNext (X A : Vec Ideal S1000x1x784 .f32) (e : Vec Ideal S512x512 .f32) (n k : ℕ) (s : KS) : KS :=
  (nW (row X (4 * n + k - 1)) (row A (4 * n + k - 1)) e s.1 s.2.1 s.2.2,
    nD (row X (4 * n + k - 1)) (row A (4 * n + k - 1)) (row X (4 * n + k)) e s.1 s.2.1 s.2.2,
    nP e s.2.1)

/-- The carried buffers before step `u`, counted over the whole grid. -/
def kstate (X A : Vec Ideal S1000x1x784 .f32) (e : Vec Ideal S512x512 .f32) (s : KS) : ℕ → KS
  | 0 => s
  | u + 1 => if u % 4 = 0 then stepFirst X A e (u / 4) (kstate X A e s u) else stepNext X A e (u / 4) (u % 4) (kstate X A e s u)

/-- The first slot of a grid point. -/
theorem kstate_one (X A e s) (n : ℕ) : kstate X A e s (4 * n + 1) = stepFirst X A e n (kstate X A e s (4 * n)) := by
  rw [kstate, if_pos (by omega), show 4 * n / 4 = n by omega]

/-- A later slot of a grid point. -/
theorem kstate_next (X A e s) (n k : ℕ) (hk : k % 4 = k) (h0 : k ≠ 0) :
    kstate X A e s (4 * n + (k + 1)) = stepNext X A e n k (kstate X A e s (4 * n + k)) := by
  rw [← Nat.add_assoc, kstate, if_neg (by omega), show (4 * n + k) / 4 = n by omega, show (4 * n + k) % 4 = k by omega]

/-- A whole grid point is its four slots. -/
theorem kstate_four (X A e s) (n : ℕ) : kstate X A e s (4 * n + 4) =
    stepNext X A e n 3 (stepNext X A e n 2 (stepNext X A e n 1 (stepFirst X A e n (kstate X A e s (4 * n))))) := by
  rw [kstate_next X A e s n 3 rfl (by decide), kstate_next X A e s n 2 rfl (by decide), kstate_next X A e s n 1 rfl (by decide), kstate_one]

/-- Copying a buffer into its own shape leaves it as it is. -/
theorem copy_W (x : Vec Ideal S512x784 .f32) : k0_pay5 (F := Ideal) x = x := by
  funext j; idx_vars j; pointwise [k0_pay5]
/-- The same of the drive row. -/
theorem copy_D (x : Vec Ideal S1x512 .f32) : k0_pay6 (F := Ideal) x = x := by
  funext j; idx_vars j; pointwise [k0_pay6]
/-- The same of the spike column. -/
theorem copy_P (x : Vec Ideal S512x1 .f32) : k0_pay7 (F := Ideal) x = x := by
  funext j; idx_vars j; pointwise [k0_pay7]

end Cert.Proof.KStep
-- ==== Proof.KVal.lean ====
/- What the kernel's buffers hold after each grid point, as the step function of KStep. -/
module
public import proofs.«01_k».proof.Proof.Gen.KernelIdeal.Frame
public import proofs.«01_k».proof.Proof.KStep
public import Idealize.ShloMosaic.Lib.Pipeline.ReadBack
public import Idealize.ShloMosaic.Lib.Pipeline.ValueKit
@[expose] public section
set_option maxRecDepth 16384
noncomputable section
namespace Cert.Proof.KVal
open Idealize.ShloMosaic Idealize.SL.Sem Cert.KernelIdeal Cert.KernelIdeal.Gen

/-- Slot `k` of grid point `t` reads the input at row `4t + k - 1`, the last row past the end. -/
theorem off1_eq : ∀ (t : Fin grid0.N) (k : Fin 4), k0_off1 (grid0.coords t) (BitVec.ofNat 32 k.val) = ![min (4 * t.val + k.val - 1) 999, 0, 0] := by
  decide +kernel
/-- Slot `k` of grid point `t` reads the next input at row `4t + k`, the last row past the end. -/
theorem off2_eq : ∀ (t : Fin grid0.N) (k : Fin 4), k0_off2 (grid0.coords t) (BitVec.ofNat 32 k.val) = ![min (4 * t.val + k.val) 999, 0, 0] := by
  decide +kernel

/-- The load of the current row. -/
theorem ld_row1 (X : Vec Ideal S1000x1x784 .f32) (t : Fin grid0.N) (k : Fin 4) (h) :
    View.ld X (Rect.unit (k0_off1 (grid0.coords t) (BitVec.ofNat 32 k.val)) ![1, 1, 784] h) = KStep.row X (4 * t.val + k.val - 1) := by
  have e := off1_eq t k
  generalize k0_off1 (grid0.coords t) (BitVec.ofNat 32 k.val) = o at h e
  subst e
  funext j
  idx_vars j
  pointwise [KStep.row]

/-- The load of the next row. -/
theorem ld_row2 (X : Vec Ideal S1000x1x784 .f32) (t : Fin grid0.N) (k : Fin 4) (h) :
    View.ld X (Rect.unit (k0_off2 (grid0.coords t) (BitVec.ofNat 32 k.val)) ![1, 1, 784] h) = KStep.row X (4 * t.val + k.val) := by
  have e := off2_eq t k
  generalize k0_off2 (grid0.coords t) (BitVec.ofNat 32 k.val) = o at h e
  subst e
  funext j
  idx_vars j
  pointwise [KStep.row]

/-- The grid's one coordinate is the point's place in the order. -/
theorem coord_eq : ∀ t : Fin grid0.N, (grid0.coords t 0).val = t.val := by decide +kernel

variable (m : (ℓ : Loc nD τ sig) → Buf (Elt Ideal) ℓ) (c : Dev nD)

/-- Window 0's block is its whole array at every point. -/
theorem idx0 : ∀ t : Fin cfg0.N, win0_0.index t (0 : Fin 3) = 0 ∧ win0_0.index t (1 : Fin 3) = 0 ∧ win0_0.index t (2 : Fin 3) = 0 := (by decide +kernel : ∀ t : Fin grid0.N, _)
/-- The input block is the whole input at every grid point. -/
theorem iblk0_eq (t : Fin cfg0.N) : iblk m c 0 t = V m c main_arg0 := by
  have emb : ∀ j : S1000x1x784.Idx, ((cfg0.win 0).blk t).view.emb j = j := fun j => by
    obtain ⟨e0, e1, e2⟩ := idx0 t
    funext a; apply Fin.ext
    match a with
    | ⟨0, _⟩ => show win0_0.index t (0 : Fin 3) * 1000 + 1 * (j 0).val = (j 0).val; omega
    | ⟨1, _⟩ => show win0_0.index t (1 : Fin 3) * 1 + 1 * (j 1).val = (j 1).val; omega
    | ⟨2, _⟩ => show win0_0.index t (2 : Fin 3) * 784 + 1 * (j 2).val = (j 2).val; omega
  funext j; show V m c main_arg0 (((cfg0.win 0).blk t).view.emb j) = V m c main_arg0 j; rw [emb]

/-- Window 1's block is its whole array at every point. -/
theorem idx1 : ∀ t : Fin cfg0.N, win0_1.index t (0 : Fin 3) = 0 ∧ win0_1.index t (1 : Fin 3) = 0 ∧ win0_1.index t (2 : Fin 3) = 0 := (by decide +kernel : ∀ t : Fin grid0.N, _)
/-- The gain block is the whole gain array. -/
theorem iblk1_eq (t : Fin cfg0.N) : iblk m c 1 t = V m c main_v8 := by
  have emb : ∀ j : S1000x1x784.Idx, ((cfg0.win 1).blk t).view.emb j = j := fun j => by
    obtain ⟨e0, e1, e2⟩ := idx1 t
    funext a; apply Fin.ext
    match a with
    | ⟨0, _⟩ => show win0_1.index t (0 : Fin 3) * 1000 + 1 * (j 0).val = (j 0).val; omega
    | ⟨1, _⟩ => show win0_1.index t (1 : Fin 3) * 1 + 1 * (j 1).val = (j 1).val; omega
    | ⟨2, _⟩ => show win0_1.index t (2 : Fin 3) * 784 + 1 * (j 2).val = (j 2).val; omega
  funext j; show V m c main_v8 (((cfg0.win 1).blk t).view.emb j) = V m c main_v8 j; rw [emb]

/-- Window 2's block is its whole array at every point. -/
theorem idx2 : ∀ t : Fin cfg0.N, win0_2.index t (0 : Fin 2) = 0 ∧ win0_2.index t (1 : Fin 2) = 0 := (by decide +kernel : ∀ t : Fin grid0.N, _)
/-- The unit matrix block is the whole matrix. -/
theorem iblk2_eq (t : Fin cfg0.N) : iblk m c 2 t = V m c main_v14 := by
  have emb : ∀ j : S512x512.Idx, ((cfg0.win 2).blk t).view.emb j = j := fun j => by
    obtain ⟨e0, e1⟩ := idx2 t
    funext a; apply Fin.ext
    match a with
    | ⟨0, _⟩ => show win0_2.index t (0 : Fin 2) * 512 + 1 * (j 0).val = (j 0).val; omega
    | ⟨1, _⟩ => show win0_2.index t (1 : Fin 2) * 512 + 1 * (j 1).val = (j 1).val; omega
  funext j; show V m c main_v14 (((cfg0.win 2).blk t).view.emb j) = V m c main_v14 j; rw [emb]

/-- Window 3's block is its whole array at every point. -/
theorem idx3 : ∀ t : Fin cfg0.N, win0_3.index t (0 : Fin 2) = 0 ∧ win0_3.index t (1 : Fin 2) = 0 := (by decide +kernel : ∀ t : Fin grid0.N, _)
/-- The weight block is the whole weight matrix. -/
theorem iblk3_eq (t : Fin cfg0.N) : iblk m c 3 t = V m c main_arg1 := by
  have emb : ∀ j : S512x784.Idx, ((cfg0.win 3).blk t).view.emb j = j := fun j => by
    obtain ⟨e0, e1⟩ := idx3 t
    funext a; apply Fin.ext
    match a with
    | ⟨0, _⟩ => show win0_3.index t (0 : Fin 2) * 512 + 1 * (j 0).val = (j 0).val; omega
    | ⟨1, _⟩ => show win0_3.index t (1 : Fin 2) * 784 + 1 * (j 1).val = (j 1).val; omega
  funext j; show V m c main_arg1 (((cfg0.win 3).blk t).view.emb j) = V m c main_arg1 j; rw [emb]

/-- Window 4's block is its whole array at every point. -/
theorem idx4 : ∀ t : Fin cfg0.N, win0_4.index t (0 : Fin 2) = 0 ∧ win0_4.index t (1 : Fin 2) = 0 := (by decide +kernel : ∀ t : Fin grid0.N, _)
/-- The first drive block is the whole drive row. -/
theorem iblk4_eq (t : Fin cfg0.N) : iblk m c 4 t = V m c main_v15 := by
  have emb : ∀ j : S1x512.Idx, ((cfg0.win 4).blk t).view.emb j = j := fun j => by
    obtain ⟨e0, e1⟩ := idx4 t
    funext a; apply Fin.ext
    match a with
    | ⟨0, _⟩ => show win0_4.index t (0 : Fin 2) * 1 + 1 * (j 0).val = (j 0).val; omega
    | ⟨1, _⟩ => show win0_4.index t (1 : Fin 2) * 512 + 1 * (j 1).val = (j 1).val; omega
  funext j; show V m c main_v15 (((cfg0.win 4).blk t).view.emb j) = V m c main_v15 j; rw [emb]

/-- Window 5's block is its whole array at every point. -/
theorem idx5 : ∀ t : Fin cfg0.N, win0_5.index t (0 : Fin 2) = 0 ∧ win0_5.index t (1 : Fin 2) = 0 := (by decide +kernel : ∀ t : Fin grid0.N, _)
/-- The first previous-spike block is the whole column. -/
theorem iblk5_eq (t : Fin cfg0.N) : iblk m c 5 t = V m c main_v16 := by
  have emb : ∀ j : S512x1.Idx, ((cfg0.win 5).blk t).view.emb j = j := fun j => by
    obtain ⟨e0, e1⟩ := idx5 t
    funext a; apply Fin.ext
    match a with
    | ⟨0, _⟩ => show win0_5.index t (0 : Fin 2) * 512 + 1 * (j 0).val = (j 0).val; omega
    | ⟨1, _⟩ => show win0_5.index t (1 : Fin 2) * 1 + 1 * (j 1).val = (j 1).val; omega
  funext j; show V m c main_v16 (((cfg0.win 5).blk t).view.emb j) = V m c main_v16 j; rw [emb]

/-- The carried buffers before step `u` of this launch. -/
abbrev kst (u : ℕ) : KStep.KS :=
  KStep.kstate (V m c main_arg0) (V m c main_v8) (V m c main_v14) (V m c main_arg1, V m c main_v15, V m c main_v16) u

/-- The loads of a point's rows, slot by slot, and the copies of whole blocks. -/
theorem ld_rows (X : Vec Ideal S1000x1x784 .f32) (t : Fin grid0.N) :
    (∀ h, View.ld X (Rect.unit (k0_off1 (grid0.coords t) 0#32) ![1, 1, 784] h) = KStep.row X (4 * t.val + 0 - 1))
    ∧ (∀ h, View.ld X (Rect.unit (k0_off1 (grid0.coords t) 1#32) ![1, 1, 784] h) = KStep.row X (4 * t.val + 1 - 1))
    ∧ (∀ h, View.ld X (Rect.unit (k0_off1 (grid0.coords t) 2#32) ![1, 1, 784] h) = KStep.row X (4 * t.val + 2 - 1))
    ∧ (∀ h, View.ld X (Rect.unit (k0_off1 (grid0.coords t) 3#32) ![1, 1, 784] h) = KStep.row X (4 * t.val + 3 - 1))
    ∧ (∀ h, View.ld X (Rect.unit (k0_off2 (grid0.coords t) 0#32) ![1, 1, 784] h) = KStep.row X (4 * t.val + 0))
    ∧ (∀ h, View.ld X (Rect.unit (k0_off2 (grid0.coords t) 1#32) ![1, 1, 784] h) = KStep.row X (4 * t.val + 1))
    ∧ (∀ h, View.ld X (Rect.unit (k0_off2 (grid0.coords t) 2#32) ![1, 1, 784] h) = KStep.row X (4 * t.val + 2))
    ∧ (∀ h, View.ld X (Rect.unit (k0_off2 (grid0.coords t) 3#32) ![1, 1, 784] h) = KStep.row X (4 * t.val + 3)) :=
  ⟨ld_row1 X t 0, ld_row1 X t 1, ld_row1 X t 2, ld_row1 X t 3, ld_row2 X t 0, ld_row2 X t 1, ld_row2 X t 2, ld_row2 X t 3⟩

/-- The weights a later grid point leaves. -/
theorem outW_B (t : Fin cfg0.N) (h0 : ¬t.val % 251 = 0) :
    (outsAt0 m c t.val t.isLt).2.1 = (KStep.stepNext (V m c main_arg0) (V m c main_v8) (V m c main_v14) t.val 3
      (KStep.stepNext (V m c main_arg0) (V m c main_v8) (V m c main_v14) t.val 2
      (KStep.stepNext (V m c main_arg0) (V m c main_v8) (V m c main_v14) t.val 1
      (KStep.stepFirst (V m c main_arg0) (V m c main_v8) (V m c main_v14) t.val ((outsAt0 m c (t.val - 1) (Nat.lt_of_le_of_lt (Nat.sub_le _ _) t.isLt)).2))))).1 := by
  rw [outsAt0_B m c t h0]
  dsimp only
  frame_open
  simp (disch := decide) only [↓ View.readCov_skip, ↓ View.readCov_cons_toLoadRect, ↓ View.readCov_fill]
  frame_out
  simp only [read_unread_whole]
  simp only [ld_rows, iblk0_eq, iblk1_eq, iblk2_eq, iblk3_eq, iblk4_eq, iblk5_eq, KStep.copy_W, KStep.copy_D, KStep.copy_P, coord_eq]
  rfl
/-- The weights the first grid point leaves. -/
theorem outW_A (t : Fin cfg0.N) (h0 : t.val % 251 = 0) :
    (outsAt0 m c t.val t.isLt).2.1 = (KStep.stepNext (V m c main_arg0) (V m c main_v8) (V m c main_v14) t.val 3
      (KStep.stepNext (V m c main_arg0) (V m c main_v8) (V m c main_v14) t.val 2
      (KStep.stepNext (V m c main_arg0) (V m c main_v8) (V m c main_v14) t.val 1
      (KStep.stepFirst (V m c main_arg0) (V m c main_v8) (V m c main_v14) t.val ((V m c main_arg1, V m c main_v15, V m c main_v16) : KStep.KS))))).1 := by
  rw [outsAt0_A m c t h0]
  dsimp only
  frame_open
  simp (disch := decide) only [↓ View.readCov_skip, ↓ View.readCov_cons_toLoadRect, ↓ View.readCov_fill]
  frame_out

  simp only [ld_rows, iblk0_eq, iblk1_eq, iblk2_eq, iblk3_eq, iblk4_eq, iblk5_eq, KStep.copy_W, KStep.copy_D, KStep.copy_P, coord_eq]
  rfl
/-- The drive a later grid point leaves. -/
theorem outD_B (t : Fin cfg0.N) (h0 : ¬t.val % 251 = 0) :
    (outsAt0 m c t.val t.isLt).2.2.1 = (KStep.stepNext (V m c main_arg0) (V m c main_v8) (V m c main_v14) t.val 3
      (KStep.stepNext (V m c main_arg0) (V m c main_v8) (V m c main_v14) t.val 2
      (KStep.stepNext (V m c main_arg0) (V m c main_v8) (V m c main_v14) t.val 1
      (KStep.stepFirst (V m c main_arg0) (V m c main_v8) (V m c main_v14) t.val ((outsAt0 m c (t.val - 1) (Nat.lt_of_le_of_lt (Nat.sub_le _ _) t.isLt)).2))))).2.1 := by
  rw [outsAt0_B m c t h0]
  dsimp only
  frame_open
  simp (disch := decide) only [↓ View.readCov_skip, ↓ View.readCov_cons_toLoadRect, ↓ View.readCov_fill]
  frame_out
  simp only [read_unread_whole]
  simp only [ld_rows, iblk0_eq, iblk1_eq, iblk2_eq, iblk3_eq, iblk4_eq, iblk5_eq, KStep.copy_W, KStep.copy_D, KStep.copy_P, coord_eq]
  rfl
/-- The drive the first grid point leaves. -/
theorem outD_A (t : Fin cfg0.N) (h0 : t.val % 251 = 0) :
    (outsAt0 m c t.val t.isLt).2.2.1 = (KStep.stepNext (V m c main_arg0) (V m c main_v8) (V m c main_v14) t.val 3
      (KStep.stepNext (V m c main_arg0) (V m c main_v8) (V m c main_v14) t.val 2
      (KStep.stepNext (V m c main_arg0) (V m c main_v8) (V m c main_v14) t.val 1
      (KStep.stepFirst (V m c main_arg0) (V m c main_v8) (V m c main_v14) t.val ((V m c main_arg1, V m c main_v15, V m c main_v16) : KStep.KS))))).2.1 := by
  rw [outsAt0_A m c t h0]
  dsimp only
  frame_open
  simp (disch := decide) only [↓ View.readCov_skip, ↓ View.readCov_cons_toLoadRect, ↓ View.readCov_fill]
  frame_out

  simp only [ld_rows, iblk0_eq, iblk1_eq, iblk2_eq, iblk3_eq, iblk4_eq, iblk5_eq, KStep.copy_W, KStep.copy_D, KStep.copy_P, coord_eq]
  rfl
/-- The negated spike column a later grid point leaves. -/
theorem outP_B (t : Fin cfg0.N) (h0 : ¬t.val % 251 = 0) :
    (outsAt0 m c t.val t.isLt).2.2.2 = (KStep.stepNext (V m c main_arg0) (V m c main_v8) (V m c main_v14) t.val 3
      (KStep.stepNext (V m c main_arg0) (V m c main_v8) (V m c main_v14) t.val 2
      (KStep.stepNext (V m c main_arg0) (V m c main_v8) (V m c main_v14) t.val 1
      (KStep.stepFirst (V m c main_arg0) (V m c main_v8) (V m c main_v14) t.val ((outsAt0 m c (t.val - 1) (Nat.lt_of_le_of_lt (Nat.sub_le _ _) t.isLt)).2))))).2.2 := by
  rw [outsAt0_B m c t h0]
  dsimp only
  frame_open
  simp (disch := decide) only [↓ View.readCov_skip, ↓ View.readCov_cons_toLoadRect, ↓ View.readCov_fill]
  frame_out
  simp only [read_unread_whole]
  simp only [ld_rows, iblk0_eq, iblk1_eq, iblk2_eq, iblk3_eq, iblk4_eq, iblk5_eq, KStep.copy_W, KStep.copy_D, KStep.copy_P, coord_eq]
  rfl
/-- The negated spike column the first grid point leaves. -/
theorem outP_A (t : Fin cfg0.N) (h0 : t.val % 251 = 0) :
    (outsAt0 m c t.val t.isLt).2.2.2 = (KStep.stepNext (V m c main_arg0) (V m c main_v8) (V m c main_v14) t.val 3
      (KStep.stepNext (V m c main_arg0) (V m c main_v8) (V m c main_v14) t.val 2
      (KStep.stepNext (V m c main_arg0) (V m c main_v8) (V m c main_v14) t.val 1
      (KStep.stepFirst (V m c main_arg0) (V m c main_v8) (V m c main_v14) t.val ((V m c main_arg1, V m c main_v15, V m c main_v16) : KStep.KS))))).2.2 := by
  rw [outsAt0_A m c t h0]
  dsimp only
  frame_open
  simp (disch := decide) only [↓ View.readCov_skip, ↓ View.readCov_cons_toLoadRect, ↓ View.readCov_fill]
  frame_out

  simp only [ld_rows, iblk0_eq, iblk1_eq, iblk2_eq, iblk3_eq, iblk4_eq, iblk5_eq, KStep.copy_W, KStep.copy_D, KStep.copy_P, coord_eq]
  rfl
end Cert.Proof.KVal
-- ==== Proof.KOut.lean ====
/- The kernel's run, its result named by the carried buffers. -/
module
public import proofs.«01_k».proof.Proof.KVal
public import Idealize.ShloMosaic.Lib.Pipeline.FrameTail
public import Idealize.ShloMosaic.Lib.Pointwise
@[expose] public section
set_option maxRecDepth 16384
noncomputable section
namespace Cert.Proof.KVal
open Idealize.ShloMosaic Idealize.ShloMosaic.TcCoe Idealize.SL.Sem Cert.KernelIdeal Cert.KernelIdeal.Gen

/-- The drive row of slot `k` of a point. -/
def pick (d0 d1 d2 d3 : Vec Ideal S1x512 .f32) (k : ℕ) : Vec Ideal S1x512 .f32 :=
  if k = 0 then d0 else if k = 1 then d1 else if k = 2 then d2 else d3

/-- One slot's store is its spike row under a unit axis. -/
theorem store_row (d : Vec Ideal S1x512 .f32) (x : S1x1x512.Idx) :
    k0_pay29 (F := Ideal) d x = KStep.spk d (ix2 0 (x 2)) := by
  show shapeCast S1x1x512 (KStep.spk d) shapeCasts_S1x512_S1x1x512 x = _
  idx_vars x
  pointwise

/-- The four row stores of a point make the block of its spike rows. -/
theorem canon4 (d0 d1 d2 d3 : Vec Ideal S1x512 .f32) (y : S4x1x512.Idx) :
    View.canon (Val := Elt Ideal) (e := .f32) [⟨Rect.unit ![3, 0, 0] ![1, 1, 512] inb_S4x1x512_S1x1x512_3_0_0, k0_pay57 (F := Ideal) d3⟩,
      ⟨Rect.unit ![2, 0, 0] ![1, 1, 512] inb_S4x1x512_S1x1x512_2_0_0, k0_pay44 (F := Ideal) d2⟩,
      ⟨Rect.unit ![1, 0, 0] ![1, 1, 512] inb_S4x1x512_S1x1x512_1_0_0, k0_pay29 (F := Ideal) d1⟩,
      ⟨Rect.unit ![0, 0, 0] ![1, 1, 512] inb_S4x1x512_S1x1x512_0_0_0, k0_pay14 (F := Ideal) d0⟩] y
    = KStep.spk (pick d0 d1 d2 d3 (y 0).val) (ix2 0 (y 2)) := by
  canon_tiles x h
  · have e : (y 0).val = 3 := by omega
    have e2 : y 2 = x 2 := Fin.ext h2
    rw [e, e2]; exact store_row d3 x
  · have e : (y 0).val = 2 := by omega
    have e2 : y 2 = x 2 := Fin.ext h2
    rw [e, e2]; exact store_row d2 x
  · have e : (y 0).val = 1 := by omega
    have e2 : y 2 = x 2 := Fin.ext h2
    rw [e, e2]; exact store_row d1 x
  · have e : (y 0).val = 0 := by omega
    have e2 : y 2 = x 2 := Fin.ext h2
    rw [e, e2]; exact store_row d0 x

variable (m : (ℓ : Loc nD τ sig) → Buf (Elt Ideal) ℓ) (c : Dev nD)

/-- The buffers before slot `k` of point `n`, over the buffers `s` before the point. -/
abbrev slot1 (n : ℕ) (s : KStep.KS) : KStep.KS := KStep.stepFirst (V m c main_arg0) (V m c main_v8) (V m c main_v14) n s
/-- The buffers before the third slot. -/
abbrev slot2 (n : ℕ) (s : KStep.KS) : KStep.KS := KStep.stepNext (V m c main_arg0) (V m c main_v8) (V m c main_v14) n 1 (slot1 m c n s)
/-- The buffers before the fourth slot. -/
abbrev slot3 (n : ℕ) (s : KStep.KS) : KStep.KS := KStep.stepNext (V m c main_arg0) (V m c main_v8) (V m c main_v14) n 2 (slot2 m c n s)

/-- The spikes a later grid point writes. -/
theorem outO_B (t : Fin cfg0.N) (h0 : ¬t.val % 251 = 0) (y : S4x1x512.Idx) :
    (outsAt0 m c t.val t.isLt).1 y = KStep.spk (pick ((outsAt0 m c (t.val - 1) (Nat.lt_of_le_of_lt (Nat.sub_le _ _) t.isLt)).2).2.1 (slot1 m c t.val ((outsAt0 m c (t.val - 1) (Nat.lt_of_le_of_lt (Nat.sub_le _ _) t.isLt)).2)).2.1
      (slot2 m c t.val ((outsAt0 m c (t.val - 1) (Nat.lt_of_le_of_lt (Nat.sub_le _ _) t.isLt)).2)).2.1 (slot3 m c t.val ((outsAt0 m c (t.val - 1) (Nat.lt_of_le_of_lt (Nat.sub_le _ _) t.isLt)).2)).2.1 (y 0).val) (ix2 0 (y 2)) := by
  rw [outsAt0_B m c t h0]
  dsimp only
  frame_open
  simp (disch := decide) only [↓ View.readCov_skip, ↓ View.readCov_cons_toLoadRect, ↓ View.readCov_fill]
  frame_out
  simp only [read_unread_whole]
  simp only [ld_rows, iblk0_eq, iblk1_eq, iblk2_eq, iblk3_eq, iblk4_eq, iblk5_eq, KStep.copy_W, KStep.copy_D, KStep.copy_P, coord_eq]
  exact canon4 _ _ _ _ y
set_option maxHeartbeats 4000000 in
theorem outO_A (t : Fin cfg0.N) (h0 : t.val % 251 = 0) (y : S4x1x512.Idx) :
    (outsAt0 m c t.val t.isLt).1 y = KStep.spk (pick ((V m c main_arg1, V m c main_v15, V m c main_v16) : KStep.KS).2.1 (slot1 m c t.val ((V m c main_arg1, V m c main_v15, V m c main_v16) : KStep.KS)).2.1
      (slot2 m c t.val ((V m c main_arg1, V m c main_v15, V m c main_v16) : KStep.KS)).2.1 (slot3 m c t.val ((V m c main_arg1, V m c main_v15, V m c main_v16) : KStep.KS)).2.1 (y 0).val) (ix2 0 (y 2)) := by
  rw [outsAt0_A m c t h0]
  dsimp only
  frame_open
  simp (disch := decide) only [↓ View.readCov_skip, ↓ View.readCov_cons_toLoadRect, ↓ View.readCov_fill]
  frame_out

  simp only [ld_rows, iblk0_eq, iblk1_eq, iblk2_eq, iblk3_eq, iblk4_eq, iblk5_eq, KStep.copy_W, KStep.copy_D, KStep.copy_P, coord_eq]
  exact canon4 _ _ _ _ y

/-- After point `n` the carried buffers are those before step `4n + 4`. -/
theorem carried : ∀ (n : ℕ) (hn : n < cfg0.N), (outsAt0 m c n hn).2 = kst m c (4 * n + 4)
  | 0, hn => by
    rw [kst, KStep.kstate_four]
    exact Prod.ext (outW_A m c ⟨0, hn⟩ rfl) (Prod.ext (outD_A m c ⟨0, hn⟩ rfl) (outP_A m c ⟨0, hn⟩ rfl))
  | n + 1, hn => by
    have h0 : ¬(n + 1) % 251 = 0 := by
      have h251 : cfg0.N = 251 := N_0
      omega
    have ih := carried n (Nat.lt_of_succ_lt hn)
    rw [kst, KStep.kstate_four, show 4 * (n + 1) = 4 * n + 4 from rfl]
    have hW := outW_B m c ⟨n + 1, hn⟩ h0
    have hD := outD_B m c ⟨n + 1, hn⟩ h0
    have hP := outP_B m c ⟨n + 1, hn⟩ h0
    simp only [Nat.add_sub_cancel, ih] at hW hD hP
    exact Prod.ext hW (Prod.ext hD hP)

/-- Slot `k` of point `t` stores the spikes of step `4t + k`. -/
theorem stored (t : Fin cfg0.N) (y : S4x1x512.Idx) :
    (outsAt0 m c t.val t.isLt).1 y = KStep.spk (kst m c (4 * t.val + (y 0).val)).2.1 (ix2 0 (y 2)) := by
  have key : ∀ (n k : ℕ), k < 4 → pick (kst m c (4 * n)).2.1 (slot1 m c n (kst m c (4 * n))).2.1
      (slot2 m c n (kst m c (4 * n))).2.1 (slot3 m c n (kst m c (4 * n))).2.1 k = (kst m c (4 * n + k)).2.1 := by
    intro n k hk
    have h1 := KStep.kstate_one (V m c main_arg0) (V m c main_v8) (V m c main_v14) (V m c main_arg1, V m c main_v15, V m c main_v16) n
    have h2 := KStep.kstate_next (V m c main_arg0) (V m c main_v8) (V m c main_v14) (V m c main_arg1, V m c main_v15, V m c main_v16) n 1 rfl (by decide)
    have h3 := KStep.kstate_next (V m c main_arg0) (V m c main_v8) (V m c main_v14) (V m c main_arg1, V m c main_v15, V m c main_v16) n 2 rfl (by decide)
    rw [h1] at h2
    rw [h2] at h3
    obtain rfl | rfl | rfl | rfl : k = 0 ∨ k = 1 ∨ k = 2 ∨ k = 3 := by omega
    · rfl
    · exact (congrArg (fun s : KStep.KS => s.2.1) h1).symm
    · exact (congrArg (fun s : KStep.KS => s.2.1) h2).symm
    · exact (congrArg (fun s : KStep.KS => s.2.1) h3).symm
  have hy : (y 0).val < 4 := (y 0).isLt
  rw [← key _ _ hy]
  by_cases h0 : t.val % 251 = 0
  · have h251 : cfg0.N = 251 := N_0
    have ht : t.val = 0 := by have := t.isLt; omega
    rw [outO_A m c t h0, ht]
    rw [show kst m c (4 * 0) = (V m c main_arg1, V m c main_v15, V m c main_v16) from rfl]
  · rw [outO_B m c t h0, carried, show 4 * (t.val - 1) + 4 = 4 * t.val by omega]

/-- The output's block index is the point on the first axis, zero on the last. -/
theorem idx6 : ∀ t : Fin cfg0.N, win0_6.index t (0 : Fin 3) = t.val ∧ win0_6.index t (2 : Fin 3) = 0 :=
  (by decide +kernel : ∀ t : Fin grid0.N, _)

/-- Output row `r` holds the spikes of step `r`. -/
theorem array_eq : (dats m 0 c).arrAt 6 cfg0.N = fun i : S1004x1x512.Idx => KStep.spk (kst m c (i 0).val).2.1 (ix2 0 (i 2)) := by
  refine (dats m 0 c).arrAt_eq_of_covers 6 _ (by decide +kernel) fun t hf y => ?_
  blk_simp
  rw [after0_6]
  obtain ⟨e0, e2⟩ := idx6 t
  have h2 : ((win0_6.blk t).view.emb y 2 : Fin 512) = y 2 := by
    apply Fin.ext
    show win0_6.index t (2 : Fin 3) * 512 + 1 * (y 2).val = (y 2).val
    omega
  rw [stored, e0, h2, Nat.mul_comm]

/-- The sliced result: row `r` holds the spikes of step `r + 1`. -/
def result : Vec Ideal S1000x1x512 .f32 := fun i => KStep.spk (kst m c ((i 0).val + 1)).2.1 (ix2 0 (i 2))

/-- What the host's slice after the grid leaves in the result. -/
theorem tail_eq : Pipeline.afterTail₀ cfgs (dats m) 0 (V0 m) [hostOps1] c main_v18 = result m c := by
  have hw : Pipeline.withArrays (cfgs 0).spec c (V0 m c) (fun w => (dats m 0 c).arrAt w (cfgs 0).N) (Proc.devRef .tc main_v17) = _ :=
    Pipeline.withArrays_arr (cfgs 0).spec (by decide) c (V0 m c) (fun w => (dats m 0 c).arrAt w (cfgs 0).N) 6
  funext i
  unfold Pipeline.afterTail₀
  simp only [hostOps1, List.flatten_cons, List.flatten_nil, List.append_nil, StableHlo.after_cons, StableHlo.after_nil]
  rw [StableHlo.unary_result, hw]
  have ha : (dats m 0 c).arrAt 6 (cfgs 0).N = _ := array_eq m c
  rw [ha]
  clear ha hw
  revert i
  intro (i : S1000x1x512.Idx)
  idx_vars i
  unfold result
  pointwise
  rw [Nat.add_comm]

/-- The kernel's run, its result named. -/
theorem run (ρ : Dev nD → PrngReg) : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ?_⟩) (run_main m ρ)
  · exact ((h c).2 main_v18 (by decide)).trans (tail_eq m c)
  · exact ((h c).1 0).trans (((dats m 0 c).arrAt_in 0 rfl _).trans ((A_eq m c 0).trans (V_main_arg0 m c)))
  · exact ((h c).1 3).trans (((dats m 0 c).arrAt_in 3 rfl _).trans ((A_eq m c 3).trans (V_main_arg1 m c)))
end Cert.Proof.KVal
-- ==== Proof.KHost.lean ====
/- What the kernel's host operations hand to the grid. -/
module
public import proofs.«01_k».proof.Proof.KVal
public import Idealize.ShloMosaic.Lib.Pointwise
public import Idealize.ShloMosaic.Lib.StableHlo.ReadAt
@[expose] public section
set_option maxRecDepth 16384
noncomputable section
namespace Cert.Proof.KVal
open Idealize.ShloMosaic Idealize.ShloMosaic.TcCoe Idealize.SL.Sem Cert.KernelIdeal Cert.KernelIdeal.Gen

variable (m : (ℓ : Loc nD τ sig) → Buf (Elt Ideal) ℓ) (c : Dev nD)

/-- The kernel gets the input as it was given. -/
theorem arg0_entry : V m c main_arg0 = m (c.tc.loc main_arg0) := V_main_arg0 m c
/-- The kernel gets the weights as they were given. -/
theorem arg1_entry : V m c main_arg1 = m (c.tc.loc main_arg1) := V_main_arg1 m c
/-- The drive starts at zero. -/
theorem v15_at (j : S1x512.Idx) : V m c main_v15 j = (0 : EReal) := by
  idx_vars j
  unfold V
  after_reads_at
/-- The spike column starts at zero. -/
theorem v16_at (j : S512x1.Idx) : V m c main_v16 j = (0 : EReal) := by
  idx_vars j
  unfold V
  after_reads_at
/-- The host builds the unit matrix. -/
theorem v14_at (a b : Fin 512) : V m c main_v14 (ix2 a b : S512x512.Idx) = if a = b then (1 : EReal) else 0 := by
  unfold V
  after_reads_at
  have h : (IntOp.cmpi CmpIPredicate.eq (IntOp.addi (BitVec.ofNat 32 a.val) 0#32) (BitVec.ofNat 32 b.val)) = if a = b then 1#1 else 0#1 := by
    have e : IntOp.addi (BitVec.ofNat 32 a.val) 0#32 = BitVec.ofNat 32 a.val := BitVec.add_zero _
    rw [e]
    by_cases hab : a = b
    · subst hab; simp [IntOp.cmpi]
    · have : BitVec.ofNat 32 a.val ≠ BitVec.ofNat 32 b.val := by
        intro h
        have := congrArg BitVec.toNat h
        simp only [BitVec.toNat_ofNat] at this
        apply hab
        apply Fin.ext
        omega
      simp only [IntOp.cmpi, beq_eq_false_iff_ne.mpr this, if_neg hab]
      rfl
  rw [h]
  split
  · show (((1#1 : BitVec 1).toNat : ℝ) : EReal) = 1
    simp
  · show (((0#1 : BitVec 1).toNat : ℝ) : EReal) = 0
    simp
/-- The row before the first input row is all ones. -/
theorem v0_at (j : S1x1x784.Idx) : V m c main_v0 j = (1 : EReal) := by
  idx_vars j
  unfold V
  after_reads_at

/-- The input as the machine holds it. -/
abbrev xin : Vec Ideal S1000x1x784 .f32 := m (c.tc.loc main_arg0)

/-- The gain of a row, from the row and the row before it. -/
theorem v8_at (r : Fin 1000) (i : Fin 784) : V m c main_v8 (ix3 r 0 i : S1000x1x784.Idx) = ((2 : EReal) * xin m c (ix3 r 0 i) + ((1 : EReal) - xin m c (ix3 r 0 i)) *
    (if h : r.val < 1 then (1 : EReal) else xin m c (ix3 ⟨r.val - 1, by omega⟩ 0 i)) : EReal) := by
  have h2 : Ideal.ofBits FTy.f32 1073741824#32 = (2 : EReal) := by
    rw [show (2 : EReal) = ((2 : ℝ) : EReal) by norm_cast]
    simp [Ideal.ofBits, Ideal.ieee, -EReal.coe_mul]; norm_num
  unfold V
  after_reads_at
  rw [h2]
  split
  · after_reads_at
  · after_reads_at
end Cert.Proof.KVal
-- ==== Proof.KSucc.lean ====
/- One step of the kernel, read element by element. -/
module
public import proofs.«01_k».proof.Proof.KStep
public import Idealize.ShloMosaic.Lib.Pointwise
@[expose] public section
set_option maxRecDepth 16384
noncomputable section
namespace Cert.Proof.KStep
open Idealize.ShloMosaic Cert.KernelIdeal Cert.KernelIdeal.Gen

/-- Whether a membrane potential reaches the threshold. -/
abbrev fires (p : EReal) : Prop := Ideal.ofBits FTy.f32 1178816512#32 ≤ max p 0

/-- A spike is one where the potential fires, zero elsewhere. -/
theorem spk_at (d : Vec Ideal S1x512 .f32) (o : Fin 512) : spk d (ix2 0 o) = if fires (d (ix2 0 o)) then (1 : EReal) else 0 := by
  pointwise [spk, k0_pay28, k0_pay27, k0_pay26]
  by_cases h : fires (d (ix2 0 o))
  · simp only [h]
    show (((BitVec.setWidth 32 1#1).toInt : ℝ) : EReal) = _
    simp
  · simp only [h]
    show (((BitVec.setWidth 32 0#1).toInt : ℝ) : EReal) = _
    simp

variable (e : Vec Ideal S512x512 .f32) (he : ∀ a b : Fin 512, e (ix2 a b) = if a = b then (1 : EReal) else 0)

include he in
/-- The row of spikes turned into a column by the unit matrix. -/
theorem eye_sum (f : Vec Ideal S1x512 .f32) (o : Fin 512) : ∑ x, (e (ix2 o x) : EReal) * f (ix2 0 x) = f (ix2 0 o) := by
  simp only [he, ite_mul, one_mul, zero_mul, Finset.sum_ite_eq, Finset.mem_univ, if_true]

include he in
theorem nW_at (xi xa W d p) (o : Fin 512) (i : Fin 784) : nW xi xa e W d p (ix2 o i) =
    min (Ideal.ofBits .f32 1123942400#32) (max 0 ((W (ix2 o i) : EReal) + if fires (d (ix2 0 o)) then (xa (ix3 0 0 i) : EReal) else (p (ix2 o 0) : EReal) * xi (ix3 0 0 i))) := by
  pointwise [nW, k0_pay34, k0_pay33, k0_pay32, k0_pay31, k0_pay23, k0_pay24]
  rw [eye_sum e he, spk_at]
  by_cases h : fires (d (ix2 0 o))
  · simp only [h, if_true, ne_eq, one_ne_zero, not_false_eq_true]
  · simp only [h, if_false, ne_eq, not_true_eq_false]

/-- The drive after a step, read at one neuron. -/
theorem nD_at (xi xa xn W d p) (o : Fin 512) : nD xi xa xn e W d p (ix2 0 o) =
    ((if fires (d (ix2 0 o)) then (0 : EReal) else max (d (ix2 0 o)) 0) + ∑ x, (xn (ix3 0 0 x) : EReal) * nW xi xa e W d p (ix2 o x))
      - if (0 : EReal) < ∑ _k0 : Fin 1, ∑ k1, spk d (ix2 0 k1) then Ideal.ofBits .f32 1177536512#32 else 0 := by
  pointwise [nW, nD, k0_pay35, k0_pay34, k0_pay33, k0_pay32, k0_pay31, k0_pay23, k0_pay24, k0_pay25, k0_pay30, k0_pay27, k0_pay26]

/-- The larger of two bits is their disjunction. -/
theorem max_bits (q r : Prop) [Decidable q] [Decidable r] : max (if q then (1 : EReal) else 0) (if r then 1 else 0) = if r ∨ q then 1 else 0 := by
  by_cases hr : r <;> by_cases hq : q <;> simp [hr, hq]

include he in
theorem nP_at (d) (o : Fin 512) : nP e d (ix2 o 0) = (0 : EReal) - if fires (d (ix2 0 o)) then 1 else 0 := by
  pointwise [nP, k0_pay36, k0_pay31, k0_pay37, k0_pay32]
  rw [eye_sum e he, spk_at]

include he in
theorem nP0_at (u : BitVec 32) (d) (o : Fin 512) : nP0 u e d (ix2 o 0) = (0 : EReal) - max (if fires (d (ix2 0 o)) then 1 else 0) (if u = 0#32 then 1 else 0) := by
  pointwise [nP0, k0_pay22, k0_pay31, k0_pay21, k0_pay17]
  rw [eye_sum e he, spk_at]
  have hs : (Scalar.select (Scalar.cmpi CmpIPredicate.eq u 0#32) 1 0 : EReal) = if u = 0#32 then 1 else 0 := by
    by_cases h : u = 0#32
    · subst h; rfl
    · rw [if_neg h]
      show (if BitVec.ofBool (u == 0#32) = 1 then (1 : EReal) else 0) = 0
      rw [beq_eq_false_iff_ne.mpr h]
      rfl
  rw [hs]

variable (X A : Vec Ideal S1000x1x784 .f32) (s₀ : KS) (u : ℕ)

/-- The weights after step `u`, whichever slot it is. -/
theorem kstate_W_eq : (kstate X A e s₀ (u + 1)).1 = nW (row X (u - 1)) (row A (u - 1)) e (kstate X A e s₀ u).1 (kstate X A e s₀ u).2.1 (kstate X A e s₀ u).2.2 := by
  rw [kstate]
  split
  · rw [stepFirst, show 4 * (u / 4) + 0 - 1 = u - 1 by omega]
  · rw [stepNext, show 4 * (u / 4) + u % 4 - 1 = u - 1 by omega]

/-- The drive after step `u`, whichever slot it is. -/
theorem kstate_D_eq : (kstate X A e s₀ (u + 1)).2.1 = nD (row X (u - 1)) (row A (u - 1)) (row X u) e (kstate X A e s₀ u).1 (kstate X A e s₀ u).2.1 (kstate X A e s₀ u).2.2 := by
  rw [kstate]
  split
  · rw [stepFirst, show 4 * (u / 4) + 0 - 1 = u - 1 by omega, show 4 * (u / 4) + 0 = u by omega]
  · rw [stepNext, show 4 * (u / 4) + u % 4 - 1 = u - 1 by omega, show 4 * (u / 4) + u % 4 = u by omega]

/-- The weights after step `u`. -/
theorem kstate_W_at (he : ∀ a b : Fin 512, e (ix2 a b) = if a = b then (1 : EReal) else 0) (o : Fin 512) (i : Fin 784) :
    (kstate X A e s₀ (u + 1)).1 (ix2 o i) = min (Ideal.ofBits .f32 1123942400#32) (max 0 (((kstate X A e s₀ u).1 (ix2 o i) : EReal) +
      if fires ((kstate X A e s₀ u).2.1 (ix2 0 o)) then (A (ix3 ⟨min (u - 1) 999, by omega⟩ 0 i) : EReal)
      else ((kstate X A e s₀ u).2.2 (ix2 o 0) : EReal) * X (ix3 ⟨min (u - 1) 999, by omega⟩ 0 i))) := by
  rw [kstate_W_eq, nW_at e he]
  rfl

/-- The drive after step `u`. -/
theorem kstate_D_at (o : Fin 512) : (kstate X A e s₀ (u + 1)).2.1 (ix2 0 o) =
    ((if fires ((kstate X A e s₀ u).2.1 (ix2 0 o)) then (0 : EReal) else max ((kstate X A e s₀ u).2.1 (ix2 0 o)) 0)
      + ∑ x, (X (ix3 ⟨min u 999, by omega⟩ 0 x) : EReal) * (kstate X A e s₀ (u + 1)).1 (ix2 o x))
      - if (0 : EReal) < ∑ _k0 : Fin 1, ∑ k1, spk (kstate X A e s₀ u).2.1 (ix2 0 k1) then Ideal.ofBits .f32 1177536512#32 else 0 := by
  rw [kstate_D_eq, kstate_W_eq, nD_at]
  rfl

/-- The negated spike column after step `u`, the first step marking every row. -/
theorem kstate_P_at (he : ∀ a b : Fin 512, e (ix2 a b) = if a = b then (1 : EReal) else 0) (hu : u < 4000) (o : Fin 512) :
    (kstate X A e s₀ (u + 1)).2.2 (ix2 o 0) = (0 : EReal) - if u = 0 ∨ fires ((kstate X A e s₀ u).2.1 (ix2 0 o)) then 1 else 0 := by
  rw [kstate]
  split
  · refine (nP0_at e he _ _ o).trans ?_
    have hz : (Scalar.addi (Scalar.muli 4#32 (BitVec.ofNat 32 (u / 4))) 0#32 = 0#32) ↔ u = 0 := by
      have e1 : Scalar.addi (Scalar.muli 4#32 (BitVec.ofNat 32 (u / 4))) 0#32 = BitVec.ofNat 32 u := by
        show 4#32 * BitVec.ofNat 32 (u / 4) + 0#32 = _
        rw [BitVec.add_zero, ← BitVec.ofNat_mul, show 4 * (u / 4) = u by omega]
      rw [e1]
      constructor
      · intro h
        have := congrArg BitVec.toNat h
        simp only [BitVec.toNat_ofNat] at this
        omega
      · rintro rfl; rfl
    simp only [hz]
    rw [max_bits]
  · refine (nP_at e he _ o).trans ?_
    have h0 : u ≠ 0 := by rintro rfl; exact absurd rfl ‹_›
    simp only [h0, false_or]
end Cert.Proof.KStep
-- ==== Proof.RStep.lean ====
/- One trip of the reference's scan, read element by element. -/
module
public import proofs.«01_k».proof.Proof.Gen.ReferenceIdeal.Run
public import Idealize.ShloMosaic.Lib.Pointwise
public import Idealize.ShloMosaic.Lib.DynamicIndex
public import Idealize.ShloMosaic.Lib.StableHlo.Predicate
public import Idealize.ShloMosaic.Lib.IdealHost
public import Idealize.ShloMosaic.Lib.WordCmp
public import Idealize.ShloMosaic.Lib.Routing.Shapes
@[expose] public section
set_option maxRecDepth 16384
noncomputable section
namespace Cert.Proof.RStep
open Idealize.ShloMosaic Idealize.ShloMosaic.TcCoe Idealize.SL.Sem Cert.ReferenceIdeal Cert.ReferenceIdeal.Value

/-- The carried buffers of the reference's scan. -/
abbrev St := Valuation τ sig (Elt Ideal)
/-- The input the scan reads. -/
abbrev gx (V : St) : Vec Ideal S1000x1x784 .f32 := V (Proc.devRef .tc main_v7_0)
/-- The table. -/
abbrev glut (V : St) : Vec Ideal S60 .f32 := V (Proc.devRef .tc main_v7_1)
/-- The membrane potentials. -/
abbrev gmem (V : St) : Vec Ideal S1x512 .f32 := V (Proc.devRef .tc main_v7_3)
/-- The weights. -/
abbrev gW (V : St) : Vec Ideal S512x784 .f32 := V (Proc.devRef .tc main_v7_4)
/-- The input counters. -/
abbrev gcin (V : St) : IVec S1x784 32 := V (Proc.devRef .tc main_v7_5)
/-- The output counters. -/
abbrev gcout (V : St) : IVec S1x512 32 := V (Proc.devRef .tc main_v7_7)
/-- The last spikes. -/
abbrev gsreg (V : St) : Vec Ideal S1x512 .f32 := V (Proc.devRef .tc main_v7_9)
/-- The output rows. -/
abbrev gout (V : St) : Vec Ideal S1000x1x512 .f32 := V (Proc.devRef .tc main_v7_10)

/-- The table's entry at a clamped position. -/
def lutAt {α : Type} (lut : S60.Idx → α) (k : ℕ) : α := lut (ix1 ⟨min k 59, by omega⟩)

/-- The table read at position `p` is its entry at the clamped index. -/
theorem gather_in {α : Type} (lut : S60.Idx → α) (idx : IVec S784x1 32) (p : Fin 784) :
    Host.gather gather_S60_S784x1_S784_n_0_n_n_0_1_1 lut idx (ix1 p) = lutAt lut (idx (ix2 p 0)).toInt.toNat := by
  have e : StableHlo.Predicate.ixP p = ix2 p 0 := by funext a; fin_cases a <;> rfl
  have e1 : ∀ {n : ℕ} (q : Fin n), (Shape.Idx.ofFin q : Shape.Idx ⟨1, ![n]⟩) = ix1 q := by
    intro n q; funext a; fin_cases a; rfl
  have h := StableHlo.Predicate.gather_take gather_S60_S784x1_S784_n_0_n_n_0_1_1 rfl rfl rfl rfl lut idx p (by decide)
  simp only [e, e1] at h
  exact h

/-- The table read at position `p` is its entry at the clamped index. -/
theorem gather_out {α : Type} (lut : S60.Idx → α) (idx : IVec S512x1 32) (p : Fin 512) :
    Host.gather gather_S60_S512x1_S512_n_0_n_n_0_1_1 lut idx (ix1 p) = lutAt lut (idx (ix2 p 0)).toInt.toNat := by
  have e : StableHlo.Predicate.ixP p = ix2 p 0 := by funext a; fin_cases a <;> rfl
  have e1 : ∀ {n : ℕ} (q : Fin n), (Shape.Idx.ofFin q : Shape.Idx ⟨1, ![n]⟩) = ix1 q := by
    intro n q; funext a; fin_cases a; rfl
  have h := StableHlo.Predicate.gather_take gather_S60_S512x1_S512_n_0_n_n_0_1_1 rfl rfl rfl rfl lut idx p (by decide)
  simp only [e, e1] at h
  exact h

/-- The membrane row before it is cut at zero. -/
def pre (V : St) (t : ℕ) (o : Fin 512) : EReal :=
  (gmem V (ix2 0 o) : EReal) + ∑ x, (gx V (ix3 ⟨min t 999, by omega⟩ 0 x) : EReal) * gW V (ix2 o x)
    - (if (0 : EReal) < ∑ k0, ∑ k1, gsreg V (ix2 k0 k1) then Ideal.ofBits FTy.f32 1177536512#32 else 0)

/-- Whether a membrane potential reaches the threshold. -/
abbrev fires (p : EReal) : Prop := Ideal.ofBits FTy.f32 1178816512#32 ≤ max p 0

/-- The clamped table index, as the reference spells it. -/
abbrev wrap (v : BitVec 32) : ℕ := (Scalar.select (IntOp.cmpi CmpIPredicate.slt v 0#32) (IntOp.addi v 60#32) v).toInt.toNat

/-- The table entry an input counter picks, masked as the reference masks it. -/
abbrev wrapIn (c : BitVec 32) : ℕ := wrap (IntOp.minsi 59#32 (IntOp.maxsi 0#32 (IntOp.addi c 29#32)))
/-- The table position an output counter picks. -/
abbrev wrapOut (c : BitVec 32) : ℕ := wrap (IntOp.minsi 59#32 (IntOp.maxsi 0#32 (IntOp.addi (-c) 29#32)))
/-- A bit as a float. -/
abbrev fl (b : BitVec 1) : EReal := FloatOps.uitofp (F := Ideal) FTy.f32 b

/-- The input counters after a step. -/
abbrev cinNew (V : St) (i : Fin 784) : BitVec 32 := res_main_while0b_v52 V (ix2 0 i : S1x784.Idx)
/-- The output counters after a step. -/
abbrev coutNew (V : St) (o : Fin 512) : BitVec 32 := res_main_while0b_v60 V (ix2 0 o : S1x512.Idx)

variable (V : St) (t : ℕ) (ht : t < 1000) (hc : V (Proc.devRef .tc main_v7_2) = fun _ => BitVec.ofNat 32 t)

include hc in
/-- The step's input row is row `t` of the input. -/
theorem v24_at (i : Fin 784) : res_main_while0b_v24 V (ix2 0 i : S1x784.Idx) = gx V (ix3 ⟨t, ht⟩ 0 i) := by
  unfold res_main_while0b_v24
  rw [Host.dynamicSlice_eq_extractStridedSlice S1x1x784 _ _ ![t, 0, 0] Gen.sliceFits_S1000x1x784_S1x1x784 (by refine ⟨rfl, ?_⟩; intro a; fin_cases a <;> simp [S1000x1x784, S1x1x784] <;> omega) (by
    intro a
    fin_cases a
    · show (V (Proc.devRef .tc main_v7_2) (Shape.Idx.first Gen.h_S_)).toInt = _
      rw [hc]
      exact toInt_ofNat_of_lt (by omega)
    · rfl
    · rfl)]
  pointwise

include ht hc in
theorem v35_at (o : Fin 512) : res_main_while0b_v35 V (ix2 0 o : S1x512.Idx) = max (pre V t o) 0 := by
  unfold res_main_while0b_v35 pre
  simp only [id_eq]
  pointwise
  simp only [v24_at V t ht hc]
  simp only [Nat.min_eq_left (show t ≤ 999 by omega)]
include ht hc in
theorem v37_at (o : Fin 512) : res_main_while0b_v37 V (ix2 0 o : S1x512.Idx) = BitVec.ofBool (decide (fires (pre V t o))) := by
  unfold res_main_while0b_v37
  pointwise
  rw [v35_at V t ht hc]
include ht hc in
theorem v52_at (o : Fin 784) : res_main_while0b_v52 V (ix2 0 o : S1x784.Idx) = IntOp.minsi
      (if gx V (ix3 ⟨t, ht⟩ 0 o) = (0 : EReal) then
        IntOp.addi (if gx V (ix3 ⟨t, ht⟩ 0 o) = (1 : EReal) then 0#32 else gcin V (ix2 0 o)) 1#32
      else if gx V (ix3 ⟨t, ht⟩ 0 o) = (1 : EReal) then 0#32 else gcin V (ix2 0 o))
      31#32 := by
  unfold res_main_while0b_v52 res_main_while0b_v42
  simp only [id_eq]
  pointwise
  rw [v24_at V t ht hc]
include ht hc in
theorem v60_at (o : Fin 512) : res_main_while0b_v60 V (ix2 0 o : S1x512.Idx) = IntOp.minsi (if fires (pre V t o) then 0#32 else IntOp.addi (gcout V (ix2 0 o)) 1#32) 31#32 := by
  unfold res_main_while0b_v60 res_main_while0b_v53
  simp only [id_eq]
  pointwise
  rw [v37_at V t ht hc]
  by_cases h : fires (pre V t o)
  · simp only [h]; rfl
  · simp only [h]; rfl
/-- The clamped table position of an input counter. -/
theorem v74_at (i : Fin 784) : res_main_while0b_v74 V (ix1 i : S784.Idx) = IntOp.minsi 59#32 (IntOp.maxsi 0#32 (IntOp.addi (res_main_while0b_v52 V (ix2 0 i : S1x784.Idx)) 29#32)) := by
  unfold res_main_while0b_v74 res_main_while0b_v61
  simp only [id_eq]
  pointwise
/-- The clamped table position of an output counter. -/
theorem v106_at (i : Fin 512) : res_main_while0b_v106 V (ix1 i : S512.Idx) = IntOp.minsi 59#32 (IntOp.maxsi 0#32 (IntOp.addi (-coutNew V i) 29#32)) := by
  unfold res_main_while0b_v106 res_main_while0b_v62
  simp only [id_eq]
  pointwise
include ht hc in
theorem s4_at (o : Fin 512) (i : Fin 784) : step_main_v7_4 V (ix2 o i : S512x784.Idx) = max
      (min
          ((gW V (ix2 o i) : EReal) +
            fl (BitVec.ofBool (decide (fires (pre V t o)))) *
                fl (IntOp.cmpi CmpIPredicate.sle (cinNew V i) 30#32) *
              (lutAt (glut V) (wrapIn (cinNew V i)) : EReal))
          (Ideal.ofBits FTy.f32 1123942400#32) +
        ((1 : EReal) - fl (BitVec.ofBool (decide (fires (pre V t o))))) *
              fl (IntOp.cmpi CmpIPredicate.sle (coutNew V o) 29#32) *
            fl (BitVec.ofBool (decide (gx V (ix3 ⟨t, ht⟩ 0 i) = (1 : EReal)))) *
          (lutAt (glut V) (wrapOut (coutNew V o)) : EReal))
      (0 : EReal) := by
  unfold step_main_v7_4
  simp only [id_eq]
  pointwise [res_main_while0b_v39, res_main_while0b_v61, res_main_while0b_v62]
  simp only [gather_in, gather_out]
  pointwise
  simp only [v74_at, v106_at, v24_at V t ht hc, v37_at V t ht hc]
include ht hc in
theorem s3_at (o : Fin 512) : step_main_v7_3 V (ix2 0 o : S1x512.Idx) = if fires (pre V t o) then (0 : EReal) else max (pre V t o) 0 := by
  unfold step_main_v7_3
  simp only [id_eq]
  pointwise
  rw [v37_at V t ht hc, v35_at V t ht hc]
  by_cases h : fires (pre V t o)
  · simp only [h]; rfl
  · simp only [h]; rfl
include ht hc in
/-- The stored spike bit as a float. -/
theorem v39_at (o : Fin 512) : res_main_while0b_v39 V (ix2 0 o : S1x512.Idx) = if fires (pre V t o) then (1 : EReal) else 0 := by
  unfold res_main_while0b_v39
  pointwise
  rw [v37_at V t ht hc]
  by_cases h : fires (pre V t o)
  · simp only [h, if_true]
    show (((1#1 : BitVec 1).toNat : ℝ) : EReal) = 1
    simp
  · simp only [h, if_false]
    show (((0#1 : BitVec 1).toNat : ℝ) : EReal) = 0
    simp
include hc in
theorem s2_at  : step_main_v7_2 V = fun _ => BitVec.ofNat 32 (t + 1) := by
  funext o
  unfold step_main_v7_2
  rw [hc]
  show BitVec.ofNat 32 t + 1#32 = _
  rw [← BitVec.ofNat_add]
include hc ht in
theorem s10_at (r : Fin 1000) (o : Fin 512)  : step_main_v7_10 V (ix3 r 0 o : S1000x1x512.Idx) = if r.val = t then res_main_while0b_v39 V (ix2 0 o : S1x512.Idx) else gout V (ix3 r 0 o) := by
  unfold step_main_v7_10
  rw [id_eq]
  rw [WordCmp.dynamicUpdateSlice_eq_update _ _ _ Gen.updateFits_S1000x1x512_S1x1x512 ![t, 0, 0] (by refine ⟨rfl, ?_⟩; intro a; fin_cases a <;> simp [S1000x1x512, S1x1x512] <;> omega) (by
    intro a
    fin_cases a
    · show (V (Proc.devRef .tc main_v7_2) (Shape.Idx.first Gen.h_S_)).toInt = _
      rw [hc]
      exact toInt_ofNat_of_lt (by omega)
    · rfl
    · rfl)]
  pointwise
  by_cases h : r.val = t
  · rw [dif_pos ⟨by omega, by omega⟩, if_pos h]
  · rw [dif_neg (by omega), if_neg h]
end Cert.Proof.RStep
-- ==== Proof.RMath.lean ====
/- The arithmetic of one weight: counters, table and clips against the kernel's closed form. -/
module
public import proofs.«01_k».proof.Proof.RStep
@[expose] public section
set_option maxRecDepth 16384
noncomputable section
namespace Cert.Proof.RStep
open Idealize.ShloMosaic Cert.ReferenceIdeal Cert.ReferenceIdeal.Value

/-- A gain cut at the upper bound, then a change of nothing cut at zero, is one clip of the sum. -/
theorem clip_gain (W c K : EReal) (hW : 0 ≤ W) (hc : 0 ≤ c) (hK : 0 ≤ K) : max (min (W + c) K + 0) 0 = min K (max 0 (W + c)) := by
  have h : 0 ≤ W + c := add_nonneg hW hc
  rw [add_zero, max_eq_right h, max_eq_left (le_min h hK), min_comm]

/-- A loss cut at zero, after a gain of nothing cut at the upper bound, is one clip of the sum. -/
theorem clip_loss (W c K : EReal) (hK : W ≤ K) (hc : c ≤ 0) (hK0 : 0 ≤ K) : max (min (W + 0) K + c) 0 = min K (max 0 (W + c)) := by
  have h : W + c ≤ K := (add_le_add_right hc W |>.trans (add_zero W).le).trans hK
  rw [add_zero, min_eq_left hK, max_comm, min_eq_right (max_le hK0 h)]

/-! ## Counters: words from 0 to 31 -/

theorem count_up : ∀ n : Fin 32, IntOp.minsi (IntOp.addi (BitVec.ofNat 32 n.val) 1#32) 31#32 = BitVec.ofNat 32 (min (n.val + 1) 31) := by decide +kernel
/-- A counter that is reset. -/
theorem count_zero : IntOp.minsi 0#32 31#32 = BitVec.ofNat 32 0 := by decide +kernel
/-- The table position of an input counter. -/
theorem wrapIn_eq : ∀ n : Fin 32, wrapIn (BitVec.ofNat 32 n.val) = min (n.val + 29) 59 := by decide +kernel
/-- The table position of an output counter. -/
theorem wrapOut_eq : ∀ n : Fin 32, wrapOut (BitVec.ofNat 32 n.val) = 29 - n.val := by decide +kernel

/-- A true bit as a number. -/
theorem fl_one : fl 1#1 = 1 := by
  show (((1#1 : BitVec 1).toNat : ℝ) : EReal) = 1
  simp
/-- A false bit as a number. -/
theorem fl_zero : fl 0#1 = 0 := by
  show (((0#1 : BitVec 1).toNat : ℝ) : EReal) = 0
  simp

/-- The word of two. -/
theorem two_f32 : Ideal.ofBits FTy.f32 1073741824#32 = (2 : EReal) := by
  rw [show (2 : EReal) = ((2 : ℝ) : EReal) by norm_cast]
  simp [Ideal.ofBits, Ideal.ieee, -EReal.coe_mul]; norm_num
/-- The word of minus one. -/
theorem neg_one_f32 : Ideal.ofBits FTy.f32 0xBF800000#32 = (-1 : EReal) := by
  rw [show (-1 : EReal) = ((-1 : ℝ) : EReal) by rw [EReal.coe_neg, EReal.coe_one]]
  simp [Ideal.ofBits, Ideal.ieee, -EReal.coe_mul, -EReal.coe_neg]; norm_num
/-- The largest weight is not negative. -/
theorem top_f32 : (0 : EReal) ≤ Ideal.ofBits FTy.f32 1123942400#32 := by
  rw [show Ideal.ofBits FTy.f32 1123942400#32 = ((127 : ℝ) : EReal) by simp [Ideal.ofBits, Ideal.ieee, -EReal.coe_mul]; norm_num]
  exact EReal.coe_nonneg.mpr (by norm_num)
/-- Nothing fires at rest. -/
theorem rest_f32 : ¬ fires 0 := by
  unfold fires
  rw [show Ideal.ofBits FTy.f32 1178816512#32 = ((12500 : ℝ) : EReal) by simp [Ideal.ofBits, Ideal.ieee, -EReal.coe_mul]; norm_num, max_self, ← EReal.coe_zero, EReal.coe_le_coe_iff]
  norm_num

/-- The table as the program spells it. -/
abbrev table : Vec Ideal S60 .f32 := fun i => FloatOps.ofBits (F := Ideal) .f32 (lit0 (S60.rowMajor i))

/-- The words of the table. -/
theorem lit_at : ∀ k : Fin 60, lit0 (S60.rowMajor (ix1 k)) = if k.val = 28 then 0xBF800000#32 else if k.val = 29 then 0x40000000#32 else if k.val = 30 then 0x3F800000#32 else 0#32 := by
  decide +kernel

/-- The table's entries. -/
theorem table_at (k : ℕ) (hk : k < 60) : lutAt table k = if k = 28 then (-1 : EReal) else if k = 29 then 2 else if k = 30 then 1 else 0 := by
  unfold lutAt
  show Ideal.ofBits FTy.f32 (lit0 (S60.rowMajor (ix1 ⟨min k 59, _⟩))) = _
  rw [lit_at]
  simp only [Nat.min_eq_left (show k ≤ 59 by omega)]
  split
  · exact neg_one_f32
  · split
    · exact two_f32
    · split
      · exact Ideal.ofBits_one_f32
      · exact Ideal.ofBits_zero_f32

/-- Comparing an input counter with thirty. -/
theorem le30 : ∀ n : Fin 32, IntOp.cmpi CmpIPredicate.sle (BitVec.ofNat 32 n.val) 30#32 = if n.val ≤ 30 then 1#1 else 0#1 := by decide +kernel
/-- Comparing an output counter with twenty-nine. -/
theorem le29 : ∀ n : Fin 32, IntOp.cmpi CmpIPredicate.sle (BitVec.ofNat 32 n.val) 29#32 = if n.val ≤ 29 then 1#1 else 0#1 := by decide +kernel

/-- One less one. -/
theorem one_sub_one : (1 : EReal) - 1 = 0 := by
  rw [← EReal.coe_one, ← EReal.coe_sub, sub_self, EReal.coe_zero]

/-- What a spike adds to a weight: two where the input has just come, one a step later, nothing after. -/
theorem gain_at (n : ℕ) (hn : n < 32) : fl (IntOp.cmpi CmpIPredicate.sle (BitVec.ofNat 32 n) 30#32) * (lutAt table (wrapIn (BitVec.ofNat 32 n)) : EReal) =
    if n = 0 then 2 else if n = 1 then 1 else 0 := by
  rw [le30 ⟨n, hn⟩, wrapIn_eq ⟨n, hn⟩, table_at _ (by omega)]
  dsimp only
  by_cases h0 : n = 0
  · subst h0; simp [fl_one]
  · by_cases h1 : n = 1
    · subst h1; simp [fl_one]
    · rw [if_neg (by omega : ¬ min (n + 29) 59 = 28), if_neg (by omega : ¬ min (n + 29) 59 = 29), if_neg (by omega : ¬ min (n + 29) 59 = 30), mul_zero, if_neg h0, if_neg h1]

/-- What an input takes from a weight where no spike comes: one a step after a spike, nothing later. -/
theorem loss_at (m : ℕ) (hm : m < 32) (h0 : m ≠ 0) : fl (IntOp.cmpi CmpIPredicate.sle (BitVec.ofNat 32 m) 29#32) * (lutAt table (wrapOut (BitVec.ofNat 32 m)) : EReal) =
    if m = 1 then -1 else 0 := by
  rw [le29 ⟨m, hm⟩, wrapOut_eq ⟨m, hm⟩, table_at _ (by omega)]
  dsimp only
  by_cases h1 : m = 1
  · subst h1; simp [fl_one]
  · rw [if_neg (by omega : ¬ 29 - m = 28), if_neg (by omega : ¬ 29 - m = 29), if_neg (by omega : ¬ 29 - m = 30), mul_zero, if_neg h1]

/-- The reference's two cut updates of a weight are the one clipped update, for an input that is zero or one and a
    weight in its range. -/
theorem weight_step (W x xp : EReal) (hx : x = 0 ∨ x = 1) (S : Prop) [Decidable S] (n m : ℕ) (hn : n < 32) (hm : m < 32)
    (hxp : xp = if n = 0 then 1 else 0) (hW : 0 ≤ W) (hK : W ≤ Ideal.ofBits FTy.f32 1123942400#32) :
    max (min (W + fl (BitVec.ofBool (decide S)) * fl (IntOp.cmpi CmpIPredicate.sle (BitVec.ofNat 32 (if x = 1 then 0 else min (n + 1) 31)) 30#32)
            * (lutAt table (wrapIn (BitVec.ofNat 32 (if x = 1 then 0 else min (n + 1) 31))) : EReal)) (Ideal.ofBits FTy.f32 1123942400#32)
        + ((1 : EReal) - fl (BitVec.ofBool (decide S))) * fl (IntOp.cmpi CmpIPredicate.sle (BitVec.ofNat 32 (if S then 0 else min (m + 1) 31)) 29#32)
            * fl (BitVec.ofBool (decide (x = 1))) * (lutAt table (wrapOut (BitVec.ofNat 32 (if S then 0 else min (m + 1) 31))) : EReal)) 0
      = min (Ideal.ofBits FTy.f32 1123942400#32) (max 0 (W + if S then 2 * x + (1 - x) * xp else (0 - if m = 0 then 1 else 0) * x)) := by
  by_cases hS : S
  · have hb : fl (BitVec.ofBool (decide S)) = 1 := by rw [decide_eq_true hS]; exact fl_one
    rw [hb, one_mul, one_sub_one, zero_mul, zero_mul, zero_mul, if_pos hS]
    rcases hx with rfl | rfl
    · rw [if_neg zero_ne_one, gain_at _ (by omega), if_neg (by omega), mul_zero, zero_add, sub_zero, one_mul, hxp]
      rw [show (if min (n + 1) 31 = 1 then (1 : EReal) else 0) = if n = 0 then 1 else 0 by
        by_cases h : n = 0
        · rw [if_pos h, if_pos (by omega)]
        · rw [if_neg h, if_neg (by omega)]]
      exact clip_gain W _ _ hW (by split; exact zero_le_one; exact le_rfl) top_f32
    · rw [if_pos rfl, gain_at _ (by omega), if_pos rfl, mul_one, one_sub_one, zero_mul, add_zero (2 : EReal)]
      exact clip_gain W _ _ hW zero_le_two top_f32
  · have hb : fl (BitVec.ofBool (decide S)) = 0 := by rw [decide_eq_false hS]; exact fl_zero
    rw [hb, zero_mul, zero_mul, sub_zero, one_mul, if_neg hS, if_neg hS]
    rcases hx with rfl | rfl
    · rw [decide_eq_false zero_ne_one, show fl (BitVec.ofBool false) = 0 from fl_zero, mul_zero, zero_mul, mul_zero]
      exact clip_loss W 0 _ hK le_rfl top_f32
    · rw [decide_eq_true rfl, show fl (BitVec.ofBool true) = 1 from fl_one, mul_one, mul_one, loss_at _ (by omega) (by omega)]
      rw [show (if min (m + 1) 31 = 1 then (-1 : EReal) else 0) = 0 - if m = 0 then 1 else 0 by
        by_cases h : m = 0
        · rw [if_pos h, if_pos (by omega), zero_sub]
        · rw [if_neg h, if_neg (by omega), sub_zero]]
      refine clip_loss W _ _ hK ?_ top_f32
      split
      · rw [zero_sub]; exact EReal.neg_le_zero.mpr zero_le_one
      · rw [sub_zero]
end Cert.Proof.RStep
-- ==== Proof.Match.lean ====
/- The kernel's carried buffers against the reference's, step by step. -/
module
public import proofs.«01_k».proof.Proof.KSucc
public import proofs.«01_k».proof.Proof.RMath
@[expose] public section
set_option maxRecDepth 16384
noncomputable section
namespace Cert.Proof.Match
open Idealize.ShloMosaic Cert.Proof.RStep

-- The kernel's data: its input, the gain of every row, the unit matrix, and the buffers before the first step.
variable (X A : Vec Ideal Cert.KernelIdeal.S1000x1x784 .f32) (e : Vec Ideal Cert.KernelIdeal.S512x512 .f32) (s₀ : KStep.KS)

/-- Row `r` of the input at a place, the last row past the end. -/
abbrev at_ (r : ℕ) (i : Fin 784) : EReal := X (ix3 ⟨min r 999, by omega⟩ 0 i)

/-- The input a step before step `t`, all ones before the first. -/
def prev (t : ℕ) (i : Fin 784) : EReal := if t = 0 then 1 else at_ X (t - 1) i

/-- What must hold of the reference's buffers `V` before step `t` and the kernel's buffers `s` before step `t + 1`. -/
structure Inv (t : ℕ) (V : St) (s : KStep.KS) : Prop where
  ctr : V (Idealize.ShloMosaic.Proc.devRef .tc Cert.ReferenceIdeal.main_v7_2) = fun _ => BitVec.ofNat 32 t
  x : gx V = X
  lut : glut V = table
  w : ∀ (o : Fin 512) (i : Fin 784), gW V (ix2 o i) = s.1 (ix2 o i)
  lo : ∀ (o : Fin 512) (i : Fin 784), (0 : EReal) ≤ s.1 (ix2 o i)
  hi : ∀ (o : Fin 512) (i : Fin 784), (s.1 (ix2 o i) : EReal) ≤ Ideal.ofBits FTy.f32 1123942400#32
  d : ∀ o : Fin 512, s.2.1 (ix2 0 o) = pre V t o
  p : ∀ o : Fin 512, ∃ n : ℕ, n < 32 ∧ gcout V (ix2 0 o) = BitVec.ofNat 32 n ∧ s.2.2 (ix2 o 0) = (0 : EReal) - if n = 0 then 1 else 0
  c : ∀ i : Fin 784, ∃ n : ℕ, n < 32 ∧ gcin V (ix2 0 i) = BitVec.ofNat 32 n ∧ prev X t i = if n = 0 then 1 else 0

variable (hX : ∀ i, X i = (0 : EReal) ∨ X i = (1 : EReal))
  (hA : ∀ (r : ℕ) (i : Fin 784), r < 1000 → A (ix3 ⟨min r 999, by omega⟩ 0 i) = (2 : EReal) * at_ X r i + (1 - at_ X r i) * prev X r i)
  (he : ∀ a b : Fin 512, e (ix2 a b) = if a = b then (1 : EReal) else 0)

section step
variable (t : ℕ) (ht : t < 1000) (V : St) (h : Inv X t V (KStep.kstate X A e s₀ (t + 1)))

include h ht in
/-- The input counter after a step. -/
theorem cin_new (i : Fin 784) (hX : ∀ i, X i = (0 : EReal) ∨ X i = (1 : EReal)) (n : ℕ) (hn : n < 32) (hc : gcin V (ix2 0 i) = BitVec.ofNat 32 n) :
    cinNew V i = BitVec.ofNat 32 (if at_ X t i = 1 then 0 else min (n + 1) 31) := by
  have hr : (⟨t, ht⟩ : Fin 1000) = ⟨min t 999, by omega⟩ := Fin.ext (by simp; omega)
  refine (v52_at V t ht h.ctr i).trans ?_
  rw [h.x, hr, hc]
  rcases hX (ix3 ⟨min t 999, by omega⟩ 0 i) with hx | hx
  · rw [at_, hx, if_pos rfl, if_neg zero_ne_one, if_neg zero_ne_one]
    exact count_up ⟨n, hn⟩
  · rw [at_, hx, if_neg one_ne_zero, if_pos rfl, if_pos rfl]
    exact count_zero

include h ht in
/-- The output counter after a step. -/
theorem cout_new (o : Fin 512) (n : ℕ) (hn : n < 32) (hc : gcout V (ix2 0 o) = BitVec.ofNat 32 n) :
    coutNew V o = BitVec.ofNat 32 (if fires (pre V t o) then 0 else min (n + 1) 31) := by
  refine (v60_at V t ht h.ctr o).trans ?_
  rw [hc]
  split
  · exact count_zero
  · exact count_up ⟨n, hn⟩

include h ht he hA hX in
/-- The weights after a step. -/
theorem weight_new (o : Fin 512) (i : Fin 784) :
    Cert.ReferenceIdeal.Value.step_main_v7_4 V (ix2 o i) = (KStep.kstate X A e s₀ (t + 2)).1 (ix2 o i) := by
  have hr : (⟨t, ht⟩ : Fin 1000) = ⟨min t 999, by omega⟩ := Fin.ext (by simp; omega)
  obtain ⟨n, hn, hcn, hxp⟩ := h.c i
  obtain ⟨k, hk, hck, hp⟩ := h.p o
  refine (s4_at V t ht h.ctr o i).trans ?_
  rw [cin_new X A e s₀ t ht V h i hX n hn hcn, cout_new X A e s₀ t ht V h o k hk hck, h.x, h.lut, hr, h.w]
  refine (weight_step _ (at_ X t i) (prev X t i) (hX _) (fires (pre V t o)) n k hn hk hxp (h.lo o i) (h.hi o i)).trans ?_
  refine Eq.trans ?_ (KStep.kstate_W_at e X A s₀ (t + 1) he o i).symm
  show _ = min _ (max 0 ((_ : EReal) + if fires ((KStep.kstate X A e s₀ (t + 1)).2.1 (ix2 0 o)) then
    A (ix3 ⟨min t 999, by omega⟩ 0 i) else ((KStep.kstate X A e s₀ (t + 1)).2.2 (ix2 o 0) : EReal) * at_ X t i))
  rw [hp, hA t i ht, h.d o]

include h ht he hA hX in
/-- One step of the reference is one step of the kernel. -/
theorem inv_step : Inv X (t + 1) (Cert.ReferenceIdeal.Value.STEP V) (KStep.kstate X A e s₀ (t + 2)) where
  ctr := (Cert.ReferenceIdeal.Value.STEP_main_v7_2 V).trans (s2_at V t h.ctr)
  x := (Cert.ReferenceIdeal.Value.STEP_main_v7_0 V).trans h.x
  lut := (Cert.ReferenceIdeal.Value.STEP_main_v7_1 V).trans h.lut
  w o i := (congrFun (Cert.ReferenceIdeal.Value.STEP_main_v7_4 V) (ix2 o i)).trans (weight_new X A e s₀ hX hA he t ht V h o i)
  lo o i := by
    rw [KStep.kstate_W_at e X A s₀ (t + 1) he o i]
    exact le_min top_f32 (le_max_left _ _)
  hi o i := by
    rw [KStep.kstate_W_at e X A s₀ (t + 1) he o i]
    exact min_le_left _ _
  d o := by
    rw [KStep.kstate_D_at e X A s₀ (t + 1) o, h.d o]
    unfold pre
    have hmem : gmem (Cert.ReferenceIdeal.Value.STEP V) (ix2 0 o) = if fires (pre V t o) then (0 : EReal) else max (pre V t o) 0 :=
      (congrFun (Cert.ReferenceIdeal.Value.STEP_main_v7_3 V) (ix2 0 o)).trans (s3_at V t ht h.ctr o)
    have hx : gx (Cert.ReferenceIdeal.Value.STEP V) = X := (Cert.ReferenceIdeal.Value.STEP_main_v7_0 V).trans h.x
    have hw : ∀ i, gW (Cert.ReferenceIdeal.Value.STEP V) (ix2 o i) = (KStep.kstate X A e s₀ (t + 2)).1 (ix2 o i) := fun i =>
      (congrFun (Cert.ReferenceIdeal.Value.STEP_main_v7_4 V) (ix2 o i)).trans (weight_new X A e s₀ hX hA he t ht V h o i)
    have hs : ∀ (a : Fin 1) (b : Fin 512), gsreg (Cert.ReferenceIdeal.Value.STEP V) (ix2 a b) = KStep.spk (KStep.kstate X A e s₀ (t + 1)).2.1 (ix2 0 b) := fun a b => by
      obtain rfl : a = 0 := Subsingleton.elim _ _
      refine (congrFun (Cert.ReferenceIdeal.Value.STEP_main_v7_9 V) (ix2 0 b)).trans ((v39_at V t ht h.ctr b).trans ?_)
      rw [KStep.spk_at, h.d b]
    rw [hmem, hx]
    simp only [hw, hs]
    rfl
  p o := by
    obtain ⟨k, hk, hck, hp⟩ := h.p o
    refine ⟨if fires (pre V t o) then 0 else min (k + 1) 31, by split <;> omega, ?_, ?_⟩
    · exact (congrFun (Cert.ReferenceIdeal.Value.STEP_main_v7_7 V) (ix2 0 o)).trans (cout_new X A e s₀ t ht V h o k hk hck)
    · rw [KStep.kstate_P_at e X A s₀ (t + 1) he (by omega) o, h.d o]
      by_cases hf : fires (pre V t o)
      · rw [if_pos (Or.inr hf), if_pos hf, if_pos rfl]
      · rw [if_neg (by rintro (h | h); omega; exact hf h), if_neg hf, if_neg (by omega)]
  c i := by
    obtain ⟨n, hn, hcn, hxp⟩ := h.c i
    refine ⟨if at_ X t i = 1 then 0 else min (n + 1) 31, by split <;> omega, ?_, ?_⟩
    · exact (congrFun (Cert.ReferenceIdeal.Value.STEP_main_v7_5 V) (ix2 0 i)).trans (cin_new X A e s₀ t ht V h i hX n hn hcn)
    · rw [prev, if_neg (by omega), Nat.add_sub_cancel]
      rcases hX (ix3 ⟨min t 999, by omega⟩ 0 i) with hx | hx
      · rw [at_, hx, if_neg zero_ne_one, if_neg (by omega)]
      · rw [at_, hx, if_pos rfl, if_pos rfl]
end step

section start
variable (V : St) (hctr : V (Idealize.ShloMosaic.Proc.devRef .tc Cert.ReferenceIdeal.main_v7_2) = fun _ => BitVec.ofNat 32 0)
  (hx : gx V = X) (hl : glut V = table) (hw : ∀ (o : Fin 512) (i : Fin 784), gW V (ix2 o i) = s₀.1 (ix2 o i))
  (lo : ∀ (o : Fin 512) (i : Fin 784), (0 : EReal) ≤ s₀.1 (ix2 o i))
  (hi : ∀ (o : Fin 512) (i : Fin 784), (s₀.1 (ix2 o i) : EReal) ≤ Ideal.ofBits FTy.f32 1123942400#32)
  (hd : ∀ o : Fin 512, s₀.2.1 (ix2 0 o) = (0 : EReal)) (hp : ∀ o : Fin 512, s₀.2.2 (ix2 o 0) = (0 : EReal))
  (hm : ∀ o : Fin 512, gmem V (ix2 0 o) = (0 : EReal)) (hs : ∀ (a : Fin 1) (o : Fin 512), gsreg V (ix2 a o) = (0 : EReal))
  (hco : ∀ o : Fin 512, gcout V (ix2 0 o) = 0#32) (hci : ∀ i : Fin 784, gcin V (ix2 0 i) = 0#32)

include he hd hp lo hi in
/-- The first step leaves the weights as they are. -/
theorem weight_first (o : Fin 512) (i : Fin 784) : (KStep.kstate X A e s₀ 1).1 (ix2 o i) = s₀.1 (ix2 o i) := by
  rw [KStep.kstate_W_at e X A s₀ 0 he o i]
  show min _ (max 0 ((s₀.1 (ix2 o i) : EReal) + if fires (s₀.2.1 (ix2 0 o)) then _ else (s₀.2.2 (ix2 o 0) : EReal) * _)) = _
  rw [hd, hp, if_neg rest_f32, zero_mul, add_zero, max_eq_right (lo o i), min_eq_right (hi o i)]

include he hctr hx hl hw lo hi hd hp hm hs hco hci in
/-- The two machines agree before the first step. -/
theorem inv_start : Inv X 0 V (KStep.kstate X A e s₀ 1) where
  ctr := hctr
  x := hx
  lut := hl
  w o i := (hw o i).trans (weight_first X A e s₀ he lo hi hd hp o i).symm
  lo o i := by rw [weight_first X A e s₀ he lo hi hd hp o i]; exact lo o i
  hi o i := by rw [weight_first X A e s₀ he lo hi hd hp o i]; exact hi o i
  d o := by
    rw [KStep.kstate_D_at e X A s₀ 0 o]
    simp only [weight_first X A e s₀ he lo hi hd hp, KStep.spk_at]
    unfold pre
    show ((if fires (s₀.2.1 (ix2 0 o)) then (0 : EReal) else max (s₀.2.1 (ix2 0 o)) 0) + _) - (if (0 : EReal) < ∑ _k0 : Fin 1, ∑ k1, (if fires (s₀.2.1 (ix2 0 k1)) then (1 : EReal) else 0) then _ else _) = _
    simp only [hd, if_neg rest_f32, hm, hs, hx, hw, max_self]
  p o := ⟨0, by omega, hco o, by
    rw [KStep.kstate_P_at e X A s₀ 0 he (by omega) o, if_pos (Or.inl rfl), if_pos rfl]⟩
  c i := ⟨0, by omega, hci i, by rw [prev, if_pos rfl, if_pos rfl]⟩

include hX hA he hctr hx hl hw lo hi hd hp hm hs hco hci in
/-- The two machines agree before every step. -/
theorem inv_all : ∀ t ≤ 1000, Inv X t (Cert.ReferenceIdeal.Value.STEP^[t] V) (KStep.kstate X A e s₀ (t + 1))
  | 0, _ => inv_start X A e s₀ he V hctr hx hl hw lo hi hd hp hm hs hco hci
  | t + 1, h => by
    rw [Function.iterate_succ_apply']
    exact inv_step X A e s₀ hX hA he t (by omega) _ (inv_all t (by omega))

include hX hA he hctr hx hl hw lo hi hd hp hm hs hco hci in
/-- After `k` steps the reference's first `k` output rows are the kernel's spikes. -/
theorem out_all (r : Fin 1000) (o : Fin 512) : ∀ k ≤ 1000, r.val < k →
    gout (Cert.ReferenceIdeal.Value.STEP^[k] V) (ix3 r 0 o) = KStep.spk (KStep.kstate X A e s₀ (r.val + 1)).2.1 (ix2 0 o)
  | 0, _, h => absurd h (by omega)
  | k + 1, hk, h => by
    have hI := inv_all X A e s₀ hX hA he V hctr hx hl hw lo hi hd hp hm hs hco hci k (by omega)
    rw [Function.iterate_succ_apply']
    refine (congrFun (Cert.ReferenceIdeal.Value.STEP_main_v7_10 _) (ix3 r 0 o)).trans ((s10_at _ k (by omega) hI.ctr r o).trans ?_)
    by_cases hr : r.val = k
    · rw [if_pos hr, v39_at _ k (by omega) hI.ctr, KStep.spk_at, hr, hI.d]
    · rw [if_neg hr]
      exact out_all r o k (by omega) (by omega)
end start
end Cert.Proof.Match
-- ==== Proof.RHost.lean ====
/- What the reference's scan starts from. -/
module
public import proofs.«01_k».proof.Proof.RMath
public import Idealize.ShloMosaic.Lib.StableHlo.ReadAt
@[expose] public section
set_option maxRecDepth 16384
noncomputable section
namespace Cert.Proof.RStep
open Idealize.ShloMosaic Idealize.ShloMosaic.TcCoe Idealize.SL.Sem Cert.ReferenceIdeal Cert.ReferenceIdeal.Value Idealize.ShloMosaic.StableHlo

variable (m : (ℓ : Loc nD τ sig) → Buf (Elt Ideal) ℓ) (c : Dev nD)

/-- The carried buffers where the reference's scan begins. -/
abbrev start : St := entryContents preI m c

/-- The scan reads the input as it was given. -/
theorem start_x : gx (start m c) = m (c.tc.loc main_arg0) := by
  simp only [gx, start, entryContents, afterL_cons, afterL_nil]
  after_reads_simp
  rfl

/-- The scan reads the table. -/
theorem start_lut : glut (start m c) = table := by
  simp only [glut, start, entryContents, afterL_cons, afterL_nil]
  after_reads_simp
  rfl

/-- The weights start as they were given. -/
theorem start_w : gW (start m c) = m (c.tc.loc main_arg1) := by
  simp only [gW, start, entryContents, afterL_cons, afterL_nil]
  after_reads_simp
  rfl

/-- The membranes start at zero. -/
theorem start_mem (j : S1x512.Idx) : gmem (start m c) j = (0 : EReal) := by
  idx_vars j
  simp only [gmem, start, entryContents, afterL_cons, afterL_nil]
  after_reads_at
  simp only [id_eq]
  pointwise

/-- No spike came before the first step. -/
theorem start_sreg (j : S1x512.Idx) : gsreg (start m c) j = (0 : EReal) := by
  idx_vars j
  simp only [gsreg, start, entryContents, afterL_cons, afterL_nil]
  after_reads_at
  simp only [id_eq]
  pointwise

/-- The input counters start at zero. -/
theorem start_cin (j : S1x784.Idx) : gcin (start m c) j = 0#32 := by
  idx_vars j
  simp only [gcin, start, entryContents, afterL_cons, afterL_nil]
  after_reads_at
  simp only [id_eq]
  pointwise

/-- The output counters start at zero. -/
theorem start_cout (j : S1x512.Idx) : gcout (start m c) j = 0#32 := by
  idx_vars j
  simp only [gcout, start, entryContents, afterL_cons, afterL_nil]
  after_reads_at
  simp only [id_eq]
  pointwise
end Cert.Proof.RStep
-- ==== Proof.Pre.lean ====
/- The precondition in words of arithmetic. -/
module
public import proofs.«01_k».proof.Pre_binary_input
public import proofs.«01_k».proof.Proof.Gen.Pre_binary_input
public import Idealize.ShloMosaic.Lib.Pointwise
public import Idealize.ShloMosaic.Lib.ReduceAll
public import Idealize.ShloMosaic.Lib.StableHlo.Predicate
public import Idealize.ShloMosaic.PureOps.Ideal
@[expose] public section
set_option maxRecDepth 16384
noncomputable section
namespace Cert.Proof.Pre
open Idealize.ShloMosaic Cert.Pre_binary_input

attribute [local instance] Cert.Pre_binary_input.Gen.facts

/-- The word of zero. -/
theorem zero_bits : Ideal.ofBits FTy.f32 0#32 = (0 : EReal) := by
  simp [Ideal.ofBits, Ideal.ieee]
/-- The word of one. -/
theorem one_bits : Ideal.ofBits FTy.f32 0x3F800000#32 = (1 : EReal) := by
  rw [show (1 : EReal) = ((1 : ℝ) : EReal) by norm_cast]
  simp [Ideal.ofBits, Ideal.ieee, -EReal.coe_mul]; norm_num

/-- What the precondition says: every input is zero or one, every weight lies between zero and the largest weight. -/
theorem decode (x : Vec Ideal S1000x1x784 .f32) (w : Vec Ideal S512x784 .f32)
    (h : Cert.Pre_binary_input.fn (F := Ideal) x w = fun _ => 1#1) :
    (∀ i, x i = (0 : EReal) ∨ x i = (1 : EReal)) ∧ ∀ i, (0 : EReal) ≤ w i ∧ (w i : EReal) ≤ Ideal.ofBits FTy.f32 1123942400#32 := by
  have h0 := congrFun h (fun a => a.elim0)
  simp only [Cert.Pre_binary_input.fn] at h0
  obtain ⟨h1, h2⟩ := IntOp.andi_eq_one.1 h0
  have h3 := Host.reduce_andi_all _ _ _ _ _ h1
  have h4 := Host.reduce_andi_all _ _ _ _ _ h2
  refine ⟨fun i => ?_, fun i => ?_⟩
  · have h5 : IntOp.ori (Ideal.cmp .oeq (x i) (Ideal.ofBits FTy.f32 0#32)) (Ideal.cmp .oeq (x i) (Ideal.ofBits FTy.f32 0x3F800000#32)) = 1#1 := h3 i
    rw [zero_bits, one_bits] at h5
    by_contra hn
    rw [not_or] at hn
    simp only [Ideal.cmp, decide_eq_false hn.1, decide_eq_false hn.2] at h5
    exact absurd h5 (by decide)
  · have h5 : IntOp.andi (Ideal.cmp .oge (w i) (Ideal.ofBits FTy.f32 0#32)) (Ideal.cmp .ole (w i) (Ideal.ofBits FTy.f32 1123942400#32)) = 1#1 := h4 i
    rw [zero_bits] at h5
    obtain ⟨h6, h7⟩ := IntOp.andi_eq_one.1 h5
    exact ⟨of_decide_eq_true ((StableHlo.Predicate.ofBool_eq_one_iff _).1 h6), of_decide_eq_true ((StableHlo.Predicate.ofBool_eq_one_iff _).1 h7)⟩
end Cert.Proof.Pre
-- ==== Proof.Algebraic.lean ====
/- The kernel and the reference end with equal results. -/
module
public import proofs.«01_k».proof.Defs
public import proofs.«01_k».proof.Proof.KOut
public import proofs.«01_k».proof.Proof.KHost
public import proofs.«01_k».proof.Proof.Match
public import proofs.«01_k».proof.Proof.RHost
public import proofs.«01_k».proof.Proof.Pre
@[expose] public section
set_option maxRecDepth 16384
noncomputable section
namespace Cert.Proof.Algebraic
open Idealize.ShloMosaic Idealize.ShloMosaic.TcCoe Idealize.SL.Sem Cert.Proof.RStep

attribute [local instance] Cert.Pre_binary_input.Gen.facts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hp : Cert.Pre_KernelIdeal_binary_input m) (c : Dev Cert.KernelIdeal.nD)

/-- The gain of a row as the kernel's host computes it, in terms of the row and the row before. -/
theorem gain_row (r : ℕ) (i : Fin 784) (hr : r < 1000) :
    Cert.KernelIdeal.Gen.V m c Cert.KernelIdeal.main_v8 (ix3 (⟨min r 999, by omega⟩ : Fin 1000) (0 : Fin 1) i : Cert.KernelIdeal.S1000x1x784.Idx)
      = (2 : EReal) * Match.at_ (KVal.xin m c) r i + (1 - Match.at_ (KVal.xin m c) r i) * Match.prev (KVal.xin m c) r i := by
  refine (KVal.v8_at m c ⟨min r 999, by omega⟩ i).trans ?_
  rw [Match.prev]
  by_cases h0 : r = 0
  · subst h0
    rfl
  · rw [if_neg h0, dif_neg (by show ¬ min r 999 < 1; omega)]
    have e : (⟨min r 999 - 1, by omega⟩ : Fin 1000) = ⟨min (r - 1) 999, by omega⟩ := Fin.ext (by show min r 999 - 1 = min (r - 1) 999; omega)
    show _ + _ * KVal.xin m c (ix3 (⟨min r 999 - 1, _⟩ : Fin 1000) 0 i) = _
    rw [e]

include hp in
/-- Both programs end with the same spikes. -/
theorem results_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    gout (Cert.ReferenceIdeal.Value.STEP^[1000] (start m' c)) = KVal.result m c := by
  obtain ⟨hx, hw⟩ := Pre.decode _ _ (hp c)
  have eX : Cert.KernelIdeal.Gen.V m c Cert.KernelIdeal.main_arg0 = KVal.xin m c := KVal.arg0_entry m c
  have eW := KVal.arg1_entry m c
  funext j
  idx_vars j
  obtain rfl : j1 = 0 := Subsingleton.elim _ _
  refine (Match.out_all (Cert.KernelIdeal.Gen.V m c Cert.KernelIdeal.main_arg0) (Cert.KernelIdeal.Gen.V m c Cert.KernelIdeal.main_v8) (Cert.KernelIdeal.Gen.V m c Cert.KernelIdeal.main_v14)
    (Cert.KernelIdeal.Gen.V m c Cert.KernelIdeal.main_arg1, Cert.KernelIdeal.Gen.V m c Cert.KernelIdeal.main_v15, Cert.KernelIdeal.Gen.V m c Cert.KernelIdeal.main_v16)
    (by rw [eX]; exact hx) (by rw [eX]; exact gain_row m c) (KVal.v14_at m c) (start m' c)
    (Cert.ReferenceIdeal.Value.ctr_entry m' c) ?_ (start_lut m' c) ?_ ?_ ?_ (fun o => KVal.v15_at m c (ix2 0 o)) (fun o => KVal.v16_at m c (ix2 o 0))
    (fun o => start_mem m' c (ix2 0 o)) (fun a o => start_sreg m' c (ix2 a o)) (fun o => start_cout m' c (ix2 0 o)) (fun i => start_cin m' c (ix2 0 i)) j0 j2 1000 le_rfl j0.isLt).trans ?_
  · rw [eX]; exact (start_x m' c).trans h0
  · intro o i
    show gW (start m' c) (ix2 o i) = Cert.KernelIdeal.Gen.V m c Cert.KernelIdeal.main_arg1 (ix2 o i)
    rw [eW]; exact congrFun ((start_w m' c).trans h1) _
  · intro o i
    show (0 : EReal) ≤ Cert.KernelIdeal.Gen.V m c Cert.KernelIdeal.main_arg1 (ix2 o i)
    rw [eW]; exact (hw (ix2 o i)).1
  · intro o i
    show @LE.le EReal _ (Cert.KernelIdeal.Gen.V m c Cert.KernelIdeal.main_arg1 (ix2 o i)) _
    rw [eW]; exact (hw (ix2 o i)).2
  · rfl

/-- From equal arguments of which the precondition holds, the kernel and the reference end with equal results. -/
theorem algebraic : Cert.algebraic_KernelIdeal_ReferenceIdeal_pre_binary_input
    (hKernelIdeal := Cert.KernelIdeal.Gen.facts) (hReferenceIdeal := Cert.ReferenceIdeal.Gen.facts) (hPre_binary_input := Cert.Pre_binary_input.Gen.facts) := by
  intro m g m' g' hp hm
  refine ⟨fun c => KVal.result m c, KVal.run m g, ?_⟩
  refine (θ_run _ _ _).mono (fun r h c => ⟨?_, (h c).2⟩) (Cert.ReferenceIdeal.Value.run m' g')
  exact (h c).1.trans (results_agree m m' hp c (hm c).1 (hm c).2)
end Cert.Proof.Algebraic
-- ==== Proof.lean ====
/-
  The proof of the claims about the kernel, its idealization and the reference: the three frames, the kernel's
  idealization, and the equality of the two results (proof/Proof/Algebraic.lean). The frames of the two kernel programs
  are the generated ones; the reference's is in proof/Proof/RefFrame.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_binary_input
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_binary_input.Gen.facts,
  fun m ρ _ => Cert.Kernel.Gen.frame m ρ, fun m ρ _ => Cert.KernelIdeal.Gen.frame m ρ, fun m ρ _ => Cert.KernelIdeal.Gen.frame m ρ,
  fun m ρ _ => RefFrame.frame m ρ, fun m ρ _ => RefFrame.frame m ρ, trivial, Algebraic.algebraic⟩

end Cert.Proof

end
